-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 1]⟩ ⟨2, ![4096, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S2048x1 : Shape := ⟨2, ![2048, 1]⟩
abbrev S256x1024 : Shape := ⟨2, ![256, 1024]⟩
abbrev S2x2048x1 : Shape := ⟨3, ![2, 2048, 1]⟩
abbrev S_ : Shape := ⟨0, ![]⟩
abbrev S256 : Shape := ⟨1, ![256]⟩
abbrev S256x1 : Shape := ⟨2, ![256, 1]⟩
abbrev S1x256x1 : Shape := ⟨3, ![1, 256, 1]⟩
abbrev S1x2048x1 : Shape := ⟨3, ![1, 2048, 1]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S2048x1, .f32⟩
  | .local _ .vmem, ⟨0, _⟩ => ⟨S256x1024, .f32⟩
  | .local _ .vmem, ⟨1, _⟩ => ⟨S256x1024, .f32⟩
  | .local _ .vmem, ⟨2, _⟩ => ⟨S2048x1, .f32⟩
  | .local _ .vmem, ⟨3, _⟩ => ⟨S2x2048x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2
abbrev barrier0 : Sem sig := 0

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_3 : BitVec 32 := 0#32
  let v9 : BitVec 1 := Scalar.cmpi .ne v8 c0_i32_3
  v9

def k0_dev1 (d0 : Dev nD) : Nat :=
  let c0_i32_10 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_9 : BitVec 32 := 2#32
  let v23 : BitVec 32 := Scalar.muli v2 c2_i32_9
  let v24 : BitVec 32 := Scalar.addi c0_i32_10 v23
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_11 : BitVec 32 := 1#32
  let v25 : BitVec 32 := Scalar.muli v6 c1_i32_11
  let v26 : BitVec 32 := Scalar.addi v24 v25
  v26.toNat
def k0_off1 (i : grid0.Coords) : Fin 3 → Nat :=
  let c0_5 : Index := 0#32
  let arg0 : BitVec 32 := BitVec.ofNat 32 (i 0).val
  let c256_i32 : BitVec 32 := 256#32
  let v14 : BitVec 32 := Scalar.muli arg0 c256_i32
  let v15 : Index := Scalar.indexCast v14
  let c0_6 : Index := 0#32
  ![0, v15.toNat, 0]
def k0_cond2 (i : grid0.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_7 : BitVec 32 := 0#32
  let v21 : BitVec 1 := Scalar.cmpi .ne v20 c0_i32_7
  v21

def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v22 : BitVec 32 := Scalar.muli v2 c2_i32_10
  let v23 : BitVec 32 := Scalar.addi c0_i32_11 v22
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_12 : BitVec 32 := 1#32
  let v24 : BitVec 32 := Scalar.muli v6 c1_i32_12
  let v25 : BitVec 32 := Scalar.addi v23 v24
  v25.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S4096x2048 : Shape := ⟨2, ![4096, 2048]⟩
abbrev S_ : Shape := ⟨0, ![]⟩
abbrev S4096 : Shape := ⟨1, ![4096]⟩
abbrev S4096x1 : Shape := ⟨2, ![4096, 1]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S_, .f32⟩
  | .hbm, ⟨2, _⟩ => ⟨S4096, .f32⟩
  | .hbm, ⟨3, _⟩ => ⟨S4096x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Slots.lean ====
module

public import proofs.«01_k».proof.Proof.Gen.KernelIdeal.Skeleton
public import proofs.«01_k».proof.Proof.Gen.KernelIdeal.Frame
public import Idealize.ShloMosaic.Lib.ValueIdxCore

/-! # What the two halves of the exchange buffer hold

The exchange buffer has two slots of 2048 rows. Slot 0 collects the row sums of the device's own 2048 × 1024 block of `x`,
256 rows at each of the eight grid points; slot 1 receives the slot 0 of the device in the same mesh row. Nothing here is
about processes or semaphores: only index sets, contents, and what a store and a transfer leave in them. -/

@[expose] public section

noncomputable section

namespace Cert.Exchange

open Cert.KernelIdeal Cert.KernelIdeal.Gen
open Idealize.ShloMosaic Idealize.ShloMosaic.TcCoe
open Idealize.SL Idealize.SL.Sem

variable {F : FTy → Type} [FloatOps F]

/-! ## The other device of the mesh row -/

/-- Device `c` sits at `(c / 2, c % 2)` of the 2 × 2 mesh; its mate is `(c / 2, 1 - c % 2)`. -/
def mate (c : Dev nD) : Dev nD := ⟨2 * (c.val / 2) + 1 - c.val % 2, by have := c.isLt; revert this; generalize c.val = v; decide +revert⟩

/-- The mate of the mate is the device itself. -/
theorem mate_mate (c : Dev nD) : mate (mate c) = c := by revert c; decide

/-- Exchanging every device with its mate is a permutation of the mesh. -/
def mates : Dev nD ≃ Dev nD := ⟨mate, mate, mate_mate, mate_mate⟩

/-- The device the handshake's signal names is the mate. -/
theorem signalled (c : Dev nD) (h : k0_dev1 c < nD) : (⟨k0_dev1 c, h⟩ : Dev nD) = mate c := Fin.ext (k0_dev1_eq c)
/-- The device the remote copy names is the mate. -/
theorem addressed (c : Dev nD) (h : k0_dev2 c < nD) : (⟨k0_dev2 c, h⟩ : Dev nD) = mate c := Fin.ext (k0_dev2_eq c)

/-! ## The grid's points -/

/-- The handshake happens at the first point and at no other. -/
theorem first_iff : ∀ t : Fin cfg0.N, k0_cond1 (grid0.coords t) = 1#1 ↔ t.val = 0 :=
  (by decide +kernel : ∀ t : Fin grid0.N, k0_cond1 (grid0.coords t) = 1#1 ↔ t.val = 0)
/-- The transfer happens at the last point and at no other. -/
theorem last_iff : ∀ t : Fin cfg0.N, k0_cond2 (grid0.coords t) = 1#1 ↔ t.val = 7 :=
  (by decide +kernel : ∀ t : Fin grid0.N, k0_cond2 (grid0.coords t) = 1#1 ↔ t.val = 7)
/-- The one grid coordinate of point `t` is `t`. -/
theorem coord_val : ∀ t : Fin cfg0.N, (grid0.coords t 0).val = t.val :=
  (by decide +kernel : ∀ t : Fin grid0.N, (grid0.coords t 0).val = t.val)
/-- There are eight points. -/
theorem points : cfg0.N = 8 := N_0

/-! ## The two slots -/

/-- The exchange buffer, whole. -/
abbrev comm : Memref sig .tc .vmem S2x2048x1 .f32 := Memref.whole cc0_scratch0
/-- Contents of the whole exchange buffer. -/
abbrev Both (F : FTy → Type) : Type := S2x2048x1.Idx → Elt F .f32

/-- The rectangle of slot 0 in the exchange buffer. -/
abbrev rect0 : Rect S2x2048x1 := Rect.unit (s := S2x2048x1) ![0, 0, 0] S1x2048x1.size inb_S2x2048x1_S1x2048x1_0_0_0
/-- The rectangle of slot 1. -/
abbrev rect1 : Rect S2x2048x1 := Rect.unit (s := S2x2048x1) ![1, 0, 0] S1x2048x1.size inb_S2x2048x1_S1x2048x1_1_0_0
/-- The rectangle of the 256 rows of slot 0 that a point writes. -/
abbrev rowsRect (i : grid0.Coords) : Rect S2x2048x1 := Rect.unit (s := S2x2048x1) (k0_off1 i) S1x256x1.size (k0_off1_inb i)

/-- The slots as the kernel's transfer and waits name them. -/
abbrev slot0 : Memref sig .tc .vmem S2048x1 .f32 := (comm.slice rect0 (fun _ => rfl)).squeeze S2048x1 squeezes_S1x2048x1_S2048x1
/-- Slot 1, named the same way. -/
abbrev slot1 : Memref sig .tc .vmem S2048x1 .f32 := (comm.slice rect1 (fun _ => rfl)).squeeze S2048x1 squeezes_S1x2048x1_S2048x1

/-- The elements of slot `k`: those whose leading coordinate is `k`. -/
def half (k : Fin 2) : Finset S2x2048x1.Idx := Finset.univ.filter fun j => (j 0).val = k.val

/-- An element lies in slot `k` exactly when its leading coordinate is `k`. -/
theorem mem_half {k : Fin 2} {j : S2x2048x1.Idx} : j ∈ half k ↔ (j 0).val = k.val := by simp [half]

/-- The two slots share no element. -/
theorem half_disjoint : Disjoint (half 0) (half 1) := by
  rw [Finset.disjoint_left]
  intro j h0 h1
  rw [mem_half] at h0 h1
  rw [h0] at h1; exact absurd h1 (by decide)

/-- The two slots are the whole buffer. -/
theorem half_union : half 0 ∪ half 1 = Finset.univ := by
  refine Finset.eq_univ_iff_forall.mpr fun j => ?_
  rw [Finset.mem_union, mem_half, mem_half]
  have h : (j 0).val < 2 := (j 0).isLt
  show (j 0).val = 0 ∨ (j 0).val = 1
  omega

/-- The first rectangle covers slot 0. -/
theorem rect0_set : rect0.set = half 0 := by
  ext j
  rw [Rect.mem_set_unit, mem_half]
  have h1 : (j 1).val < 2048 := (j 1).isLt
  have h2 : (j 2).val < 1 := (j 2).isLt
  constructor
  · intro h
    have h0 : 0 ≤ (j 0).val ∧ (j 0).val < 0 + 1 := h 0
    show (j 0).val = 0
    omega
  · intro h a
    have h' : (j 0).val = 0 := h
    fin_cases a
    · show 0 ≤ (j 0).val ∧ (j 0).val < 0 + 1; omega
    · show 0 ≤ (j 1).val ∧ (j 1).val < 0 + 2048; omega
    · show 0 ≤ (j 2).val ∧ (j 2).val < 0 + 1; omega

/-- The second rectangle covers slot 1. -/
theorem rect1_set : rect1.set = half 1 := by
  ext j
  rw [Rect.mem_set_unit, mem_half]
  have h1 : (j 1).val < 2048 := (j 1).isLt
  have h2 : (j 2).val < 1 := (j 2).isLt
  constructor
  · intro h
    have h0 : 1 ≤ (j 0).val ∧ (j 0).val < 1 + 1 := h 0
    show (j 0).val = 1
    omega
  · intro h a
    have h' : (j 0).val = 1 := h
    fin_cases a
    · show 1 ≤ (j 0).val ∧ (j 0).val < 1 + 1; omega
    · show 0 ≤ (j 1).val ∧ (j 1).val < 0 + 2048; omega
    · show 0 ≤ (j 2).val ∧ (j 2).val < 0 + 1; omega

/-- The elements slot 0's memref reaches. -/
theorem slot0_set : slot0.view.set = half 0 := by
  show ((View.whole cc0_scratch0).slice rect0 |>.reshape S2048x1 squeezes_S1x2048x1_S2048x1.numel_eq).set = half 0
  rw [View.set_reshape, View.set_slice_whole]; exact rect0_set
/-- The elements slot 1's memref reaches. -/
theorem slot1_set : slot1.view.set = half 1 := by
  show ((View.whole cc0_scratch0).slice rect1 |>.reshape S2048x1 squeezes_S1x2048x1_S2048x1.numel_eq).set = half 1
  rw [View.set_reshape, View.set_slice_whole]; exact rect1_set

/-- What one transfer between slots counts on a semaphore. -/
abbrev N : ℕ := slot1.view.dmaCredit
/-- A transfer counts something. -/
theorem N_pos : 0 < N := View.dmaCredit_pos _ (by decide)

/-! ## Landing -/

/-- Contents that do not depend on the slot: each row holds the same in both. -/
def Level (g : Both F) : Prop := ∀ i j : S2x2048x1.Idx, (i 1).val = (j 1).val → g i = g j

/-- Slot 0 holding level contents `g`, copied into slot 1, leaves `g` there. -/
theorem landing (g fd : Both F) (hg : Level g) : ∀ i ∈ half 1,
    (slot1.view.write (Elt F) fd (slot0.view.read (Elt F) g) Finset.univ) i = g i := by
  intro i hi
  rw [← slot1_set] at hi
  obtain ⟨x, -, rfl⟩ := Finset.mem_map.mp hi
  refine (View.write_emb_of_mem (Val := Elt F) (v := slot1.view) fd (slot0.view.read (Elt F) g) (Finset.mem_univ x)).trans ?_
  show g (slot0.view.emb x) = g (slot1.view.emb x)
  refine hg _ _ ?_
  rfl

end Cert.Exchange

end
-- ==== Proof.Rows.lean ====
module

public import proofs.«01_k».proof.Proof.Slots

/-! # The row sums a device collects, 256 rows a point -/

@[expose] public section

noncomputable section

namespace Cert.Exchange

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-- The point that sums row `r`. -/
def pointOf (j : S2x2048x1.Idx) : Fin cfg0.N := ⟨(j 1).val / 256, by
  have h : (j 1).val < 2048 := (j 1).isLt
  rw [points]; omega⟩

/-- Where row `r` sits among the 256 its point sums. -/
def placeOf (j : S2x2048x1.Idx) : S1x256x1.Idx :=
  ValueIdx.ix3 (0 : Fin 1) ⟨(j 1).val % 256, Nat.mod_lt _ (by decide)⟩ (0 : Fin 1)

/-- Device `c`'s row sums, laid out as the exchange buffer is, the same in both slots. -/
def sums (c : Dev nD) : Both F := fun j => k0_pay1 (iblk m c 0 (pointOf j)) (placeOf j)

/-- The row sums depend on the row alone, not on the slot. -/
theorem sums_level (c : Dev nD) : Level (sums m c) := by
  intro i j h
  have hp : pointOf i = pointOf j := Fin.ext (congrArg (· / 256) h)
  have hq : placeOf i = placeOf j := by
    unfold placeOf
    congr 1
    exact Fin.ext (congrArg (· % 256) h)
  show k0_pay1 (iblk m c 0 (pointOf i)) (placeOf i) = k0_pay1 (iblk m c 0 (pointOf j)) (placeOf j)
  rw [hp, hq]

/-- `f`'s slot 0 holds the row sums of the first `n` points. -/
def Filled (c : Dev nD) (n : ℕ) (f : Both F) : Prop :=
  ∀ j : S2x2048x1.Idx, (j 0).val = 0 → (j 1).val < 256 * n → f j = sums m c j

/-- Before the first point nothing needs to be filled. -/
theorem filled_zero (c : Dev nD) (f : Both F) : Filled m c 0 f := fun j _ h => absurd h (by omega)

/-- With every point done, slot 0 holds the row sums throughout. -/
theorem Filled.all {c : Dev nD} {n : ℕ} {f : Both F} (h : Filled m c n f) (hn : n = 8) : ∀ j ∈ half 0, f j = sums m c j := by
  intro j hj
  have h1 : (j 1).val < 2048 := (j 1).isLt
  exact h j (mem_half.mp hj) (by omega)

/-- The elements a point's load and store touch lie in slot 0. -/
theorem rows_subset (i : grid0.Coords) : (rowsRect i).set ⊆ half 0 := by
  intro j hj
  rw [Rect.mem_set_unit] at hj
  rw [mem_half]
  have h0 := hj 0
  rw [k0_off1_eq i] at h0
  have h0' : 0 ≤ (j 0).val ∧ (j 0).val < 0 + 1 := h0
  show (j 0).val = 0
  omega

/-- A point's store stays in slot 0. -/
theorem access_rows_set (i : grid0.Coords) : (comm.access (rowsRect i)).setOn Finset.univ ⊆ half 0 := by
  show ((View.whole cc0_scratch0).slice (rowsRect i)).set ⊆ half 0
  rw [View.set_slice_whole]; exact rows_subset i

/-- A point's load stays in slot 0. -/
theorem load_rows_set (i : grid0.Coords) : comm.view.setOn (rowsRect i).toLoadRect.set ⊆ half 0 := by
  intro j hj
  obtain ⟨x, hx, rfl⟩ := Finset.mem_map.mp hj
  exact rows_subset i hx

/-- Storing point `t`'s row sums extends what is filled by that point. -/
theorem fill (c : Dev nD) (t : Fin cfg0.N) (f : Both F) (hf : Filled m c t.val f) :
    Filled m c (t.val + 1)
      ((comm.access (rowsRect (grid0.coords t))).write (Elt F) f (k0_pay1 (iblk m c 0 t)) Finset.univ) := by
  intro j hj0 hj1
  by_cases hlt : (j 1).val < 256 * t.val
  · have hnot : j ∉ (comm.access (rowsRect (grid0.coords t))).setOn Finset.univ := by
      intro hmem
      have hmem' : j ∈ ((View.whole cc0_scratch0).slice (rowsRect (grid0.coords t))).set := hmem
      rw [View.set_slice_whole, Rect.mem_set_unit] at hmem'
      have h1 := hmem' 1
      rw [k0_off1_eq] at h1
      have h1' : 256 * (grid0.coords t 0).val ≤ (j 1).val := h1.1
      rw [coord_val] at h1'
      omega
    exact (View.write_of_not_mem (Val := Elt F) (v := comm.access (rowsRect (grid0.coords t))) f (k0_pay1 (iblk m c 0 t)) Finset.univ hnot).trans (hf j hj0 hlt)
  · have hdiv : (j 1).val / 256 = t.val := by omega
    have hpt : pointOf j = t := Fin.ext hdiv
    have hemb : (comm.access (rowsRect (grid0.coords t))).emb (placeOf j) = j := by
      show (rowsRect (grid0.coords t)).emb (placeOf j) = j
      funext a
      refine Fin.ext ?_
      have h2 : (j 2).val < 1 := (j 2).isLt
      have hoff := k0_off1_eq (grid0.coords t)
      have hc := coord_val t
      rw [Rect.emb_apply]
      show k0_off1 (grid0.coords t) a + 1 * (placeOf j a).val = (j a).val
      rw [hoff]
      fin_cases a
      · show 0 + 1 * 0 = (j 0).val; omega
      · show 256 * (grid0.coords t 0).val + 1 * ((j 1).val % 256) = (j 1).val; omega
      · show 0 + 1 * 0 = (j 2).val; omega
    have hw := View.write_emb_of_mem (Val := Elt F) (v := comm.access (rowsRect (grid0.coords t))) f (k0_pay1 (iblk m c 0 t)) (Finset.mem_univ (placeOf j))
    rw [hemb] at hw
    refine hw.trans ?_
    show k0_pay1 (iblk m c 0 t) (placeOf j) = k0_pay1 (iblk m c 0 (pointOf j)) (placeOf j)
    rw [hpt]

/-- Device `c`'s result: its own row sums plus its mate's. -/
def result (c : Dev nD) : S2048x1.Idx → Elt F .f32 :=
  k0_pay2 (comm.view.readAt (Elt F) rect0.toLoadRect (sums m c)) (comm.view.readAt (Elt F) rect1.toLoadRect (sums m (mate c)))

end Cert.Exchange

end
-- ==== Proof.Protocol.lean ====
module

public import proofs.«01_k».proof.Proof.Rows
public import Idealize.ShloMosaic.Lib.Pipeline.Launch
public import Idealize.ShloMosaic.Lib.Pipeline.Kit
public import Idealize.ShloMosaic.Lib.Tactic

/-! # The exchange between the two devices of a mesh row

Three semaphores per device take part, numbered 0, 1, 2 below: the barrier semaphore, on which the mate says that it has
entered the kernel; the send semaphore, which the device's own transfer raises when it has read slot 0; the receive
semaphore, which the mate's transfer raises when slot 1 is written. Each is raised once and waited on once. What a wait
hands over is the ownership of a slot. -/

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's, and a second copy for the three exchange semaphores. -/
abbrev UU : Type := UR sig nD τ × UR sig nD τ

local notation "𝕄" => MT nD τ sig Unit (Elt F) ℕ UU ℕ

/-- Where the pipeline's ghost state lives. -/
abbrev EP : Emb (UR sig nD τ) (MT nD τ sig Unit (Elt F) ℕ UU ℕ) := embL
/-- Where the exchange's ghost state lives. -/
abbrev ER : Emb (UR sig nD τ) (MT nD τ sig Unit (Elt F) ℕ UU ℕ) := embR

variable (m : (ℓ : Loc nD τ sig) → Buf (Elt F) ℓ)

/-! ## The cells -/

/-- The barrier semaphore of the handshake. -/
abbrev barS : Sem sig := (SemArray.scalar (sig.barrier 0 rfl) : Sems sig S_).sem
/-- The semaphore that says a sent slot has been read. -/
abbrev sendS : DmaSem sig := cc0_scratch1.sem
/-- The semaphore that says a slot has arrived. -/
abbrev recvS : DmaSem sig := cc0_scratch2.sem

/-- Semaphore number `k` of a device. -/
abbrev csem : Fin 3 → SemLoc sig := fun | 0 => .reg barS | 1 => .dma sendS | 2 => .dma recvS
/-- Semaphore number `k` of device `c`. -/
abbrev cell (k : Fin 3) (c : Dev nD) : GSem nD τ sig := ((c : Thread nD τ), csem k)

/-- Which of the three a semaphore is, if it is one. -/
def kind (s : SemLoc sig) : Option (Fin 3) :=
  if s = csem 0 then some 0 else if s = csem 1 then some 1 else if s = csem 2 then some 2 else none

/-- Each of the three semaphores is recognised. -/
theorem kind_csem : ∀ k : Fin 3, kind (csem k) = some k := by decide

/-- The three semaphores are distinct. -/
theorem csem_injective : Function.Injective csem := fun a b h => by
  have h' := congrArg kind h
  rw [kind_csem, kind_csem] at h'
  exact Option.some.inj h'

/-- A cell determines its semaphore and its device. -/
theorem cell_inj {k k' : Fin 3} {c c' : Dev nD} (h : cell k c = cell k' c') : k = k' ∧ c = c' :=
  ⟨csem_injective (congrArg Prod.snd h), congrArg (fun g : GSem nD τ sig => g.1.1) h⟩

/-! ## Ownership of a slot -/

/-- Device `c` owns slot `k` of its exchange buffer, the buffer's contents there being `f`'s. -/
def slotAt (k : Fin 2) (c : Dev nD) (f : Both F) : sProp 𝕄 :=
  ((c : Thread nD τ).loc cc0_scratch0) ↦[half k]{fullShare} (show Buf (Elt F) ((c : Thread nD τ).loc cc0_scratch0) from f)

omit [FloatOps F] in
/-- Ownership of a slot may be kept in an invariant. -/
instance slotAt_storable (k : Fin 2) (c : Dev nD) (f : Both F) : BI.Storable (upEmb : UEmb _ 𝕄) (slotAt k c f) := by
  unfold slotAt; infer_instance

omit [FloatOps F] in
/-- Only the contents in the slot matter. -/
theorem slotAt_congr {k : Fin 2} {c : Dev nD} {f g : Both F} (h : ∀ j ∈ half k, f j = g j) :
    (slotAt k c f : sProp 𝕄) = slotAt k c g := by
  unfold slotAt; exact pointsTo_congr h

omit [FloatOps F] in
/-- The whole exchange buffer is its two slots. -/
theorem slots_split (c : Dev nD) (f : Both F) :
    (((c : Thread nD τ).loc cc0_scratch0) ↦{fullShare} (show Buf (Elt F) ((c : Thread nD τ).loc cc0_scratch0) from f) : sProp 𝕄)
      ⊢ iprop(slotAt 0 c f ∗ slotAt 1 c f) := by
  unfold slotAt
  have h := (pointsTo_union (nD := nD) (τ := τ) (sig := sig) (Ix := Unit) (Val := Elt F) (Name := ℕ) (U := UU) (Lvl := ℕ)
    (ℓ := (c : Thread nD τ).loc cc0_scratch0) (I := half 0) (J := half 1) (q := fullShare) (f := f) half_disjoint).1
  rwa [half_union] at h

omit [FloatOps F] in
/-- The two slots, at any contents, are the whole exchange buffer at some contents. -/
theorem slots_join (c : Dev nD) (f g : Both F) :
    iprop(slotAt 0 c f ∗ slotAt 1 c g)
      ⊢ (iprop(∃ h : Buf (Elt F) ((c : Thread nD τ).loc cc0_scratch0), ((c : Thread nD τ).loc cc0_scratch0) ↦{fullShare} h) : sProp 𝕄) := by
  unfold slotAt
  have h := pointsTo_join (nD := nD) (τ := τ) (sig := sig) (Ix := Unit) (Val := Elt F) (Name := ℕ) (U := UU) (Lvl := ℕ)
    (ℓ := (c : Thread nD τ).loc cc0_scratch0) (I := half 0) (J := half 1) (q := fullShare) (f := f) (g := g) half_disjoint
  rw [half_union] at h
  iintro H
  iexists _
  iapply h
  iexact H

/-! ## What each semaphore is raised by, and what its wait hands over -/

/-- How much semaphore `k` is raised by. -/
def weight : Fin 3 → ℕ := fun | 0 => 1 | 1 => N | 2 => N

/-- Every semaphore is raised by something. -/
theorem weight_pos : ∀ k, 0 < weight k := fun | 0 => Nat.one_pos | 1 => N_pos | 2 => N_pos

/-- What device `c` receives by its wait on semaphore `k`: the mate's slot 1 to write into; its own slot 0 back; its own
    slot 1 holding the mate's row sums. -/
def handed (k : Fin 3) (c : Dev nD) : sProp 𝕄 :=
  match k with
  | 0 => iprop(∃ f, slotAt 1 (mate c) f)
  | 1 => slotAt 0 c (sums m c)
  | 2 => slotAt 1 c (sums m (mate c))

/-- What a wait hands over may be kept in an invariant. -/
instance handed_storable (k : Fin 3) (c : Dev nD) : BI.Storable (upEmb : UEmb _ 𝕄) (handed m k c) := by
  unfold handed; split <;> infer_instance

/-- One round: each of the three semaphores of every TensorCore has one duty in round 0. -/
def sched : Rounds.Schedule (GSem nD τ sig) Unit 𝕄 where
  duties g r := if r = 0 ∧ g.1.2 = .tc ∧ (kind g.2).isSome then {()} else ∅
  unitless _ := False
  amount g _ _ := ((kind g.2).map weight).getD 1
  payload g _ _ := match kind g.2 with
    | some k => handed m k g.1.1
    | none => iprop(emp)
  amount_pos g _ _ _ := by
    cases kind g.2 with
    | none => exact Nat.one_pos
    | some k => exact weight_pos k

/-- So may what the schedule pays. -/
instance sched_storable (g : GSem nD τ sig) (r : ℕ) (d : Unit) : BI.Storable (upEmb : UEmb _ 𝕄) ((sched m).payload g r d) := by
  dsimp only [sched]; split <;> infer_instance

/-- Each cell has one duty in the round. -/
theorem duties_cell (k : Fin 3) (c : Dev nD) : (sched m).duties (cell k c) 0 = {()} := by
  dsimp only [sched]; exact if_pos ⟨rfl, rfl, by rw [kind_csem]; rfl⟩

/-- That duty is among them. -/
theorem mem_duties (k : Fin 3) (c : Dev nD) : () ∈ (sched m).duties (cell k c) 0 := by
  rw [duties_cell]; exact Finset.mem_singleton_self _

/-- There is no duty after the first round. -/
theorem duties_after (g : GSem nD τ sig) (r : ℕ) (hr : 1 ≤ r) : (sched m).duties g r = ∅ := by
  dsimp only [sched]; exact if_neg fun h => by omega

/-- The duty raises the cell by its semaphore's weight. -/
theorem amount_cell (k : Fin 3) (c : Dev nD) : (sched m).amount (cell k c) 0 () = weight k := by
  dsimp only [sched]; rw [kind_csem]; rfl

/-- The duty pays what the semaphore's wait hands over. -/
theorem payload_cell (k : Fin 3) (c : Dev nD) : (sched m).payload (cell k c) 0 () = handed m k c := by
  dsimp only [sched]; rw [kind_csem]

/-- A wait on the cell takes its semaphore's weight. -/
theorem expect_cell (k : Fin 3) (c : Dev nD) : (sched m).expect (cell k c) 0 = weight k := by
  unfold Schedule.expect Schedule.amountOf; rw [duties_cell, Finset.sum_singleton, amount_cell]

/-- All that is handed over in the round. -/
theorem rest_cell (k : Fin 3) (c : Dev nD) :
    bigSep ((sched m).duties (cell k c) 0 \ ∅) (fun u => (sched m).payload (cell k c) 0 u) = handed m k c := by
  rw [Finset.sdiff_empty, duties_cell, bigSep_singleton, payload_cell]

/-! ## Debts and the order of waits -/

/-- Once it has signalled, a device still owes its mate the transfer. -/
def oweCopy (c : Dev nD) : CellTallies nD τ sig Unit := tallyAt (cell 2 (mate c)) () N
/-- At launch it owes its mate the signal too. -/
def oweAll (c : Dev nD) : CellTallies nD τ sig Unit := oweCopy c + tallyAt (cell 0 (mate c)) () 1

/-- Device `c`'s debts before point `n`. -/
def owedAt (c : Dev nD) (n : ℕ) : CellTallies nD τ sig Unit := if n = 0 then oweAll c else if n < 8 then oweCopy c else 0

/-- Before the first point a device owes the signal and the transfer. -/
theorem owedAt_zero (c : Dev nD) : owedAt c 0 = oweAll c := if_pos rfl
/-- After it, until the last point, only the transfer. -/
theorem owedAt_mid (c : Dev nD) {n : ℕ} (h0 : n ≠ 0) (h : n < 8) : owedAt c n = oweCopy c := by
  unfold owedAt; rw [if_neg h0, if_pos h]
/-- At the end, nothing. -/
theorem owedAt_end (c : Dev nD) : owedAt c 8 = 0 := rfl

/-- Every cell of a TensorCore has the one level index. -/
def L (g : GSem nD τ sig) : Finset Unit := if g.1.2 = .tc then {()} else ∅

/-- Barrier below receive, everything else at the bottom. -/
def lv (g : GSem nD τ sig) (_ : Unit) : ℕ := if g.2 = csem 2 then 2 else if g.2 = csem 0 then 1 else 0

/-- No other core has a level. -/
theorem L_of_ne (g : GSem nD τ sig) (h : g.1.2 ≠ .tc) : L g = ∅ := if_neg h

/-- The receive semaphore is at the top level. -/
theorem lv_recv (c : Dev nD) (u : Unit) : lv (cell 2 c) u = 2 := if_pos rfl
/-- The barrier semaphore is below it. -/
theorem lv_bar (c : Dev nD) (u : Unit) : lv (cell 0 c) u = 1 := rfl
/-- Every other semaphore is at the bottom. -/
theorem lv_other (c : Dev nD) (u : Unit) (s : SemLoc sig) (h2 : s ≠ csem 2) (h0 : s ≠ csem 0) : lv ((c : Thread nD τ), s) u = 0 := by
  unfold lv; rw [if_neg h2, if_neg h0]

/-- The transfer is owed on the mate's receive semaphore alone. -/
theorem oweCopy_pos {c : Dev nD} {g : GSem nD τ sig} {u : Unit} (h : 0 < oweCopy c g u) : g = cell 2 (mate c) := by
  unfold oweCopy at h
  rw [tallyAt_apply] at h
  by_contra hn
  rw [if_neg fun h' => hn h'.1] at h
  exact Nat.lt_irrefl 0 h

/-- At launch a device owes on its mate's receive and barrier semaphores alone. -/
theorem oweAll_pos {c : Dev nD} {g : GSem nD τ sig} {u : Unit} (h : 0 < oweAll c g u) : g = cell 2 (mate c) ∨ g = cell 0 (mate c) := by
  unfold oweAll at h
  rw [Pi.add_apply, Finsupp.add_apply] at h
  by_cases h1 : 0 < oweCopy c g u
  · exact .inl (oweCopy_pos h1)
  · right
    rw [tallyAt_apply] at h
    by_contra hn
    rw [if_neg fun h' => hn h'.1] at h
    omega

omit [FloatOps F] in
/-- A wait may be made while every debt is at a higher level than it. -/
theorem mayWait_below (c : Dev nD) (s : SemLoc sig) (O : CellTallies nD τ sig Unit)
    (h : ∀ g u, 0 < O g u → g.1.2 = .tc ∧ lv ((c : Thread nD τ), s) () < lv g u) :
    (levAts L lv : sProp 𝕄) ⊢ MayWait (c : Thread nD τ) s () O :=
  MayOwe.of_cut (L := L) (lev := lv) (lv ((c : Thread nD τ), s) ())
    (fun p hp => by rw [Finset.mem_singleton.mp hp]; exact Finset.mem_singleton_self ())
    (fun g u hg => by unfold L; rw [if_pos (h g u hg).1]; exact Finset.mem_singleton_self ())
    (fun p hp => by rw [Finset.mem_singleton.mp hp])
    (fun g u hg => (h g u hg).2)

omit [FloatOps F] in
/-- The wait on the barrier semaphore, owing the transfer. -/
theorem mayWait_bar (c : Dev nD) : (levAts L lv : sProp 𝕄) ⊢ MayWait (c : Thread nD τ) (csem 0) () (oweCopy c) :=
  mayWait_below c (csem 0) _ fun g u hg => by
    obtain rfl := oweCopy_pos hg
    refine ⟨rfl, ?_⟩
    rw [lv_recv, lv_bar]; decide

omit [FloatOps F] in
/-- The pipeline's own waits, whatever the device still owes. -/
theorem mayWait_stage (c : Dev nD) (s : SemLoc sig) (h2 : s ≠ csem 2) (h0 : s ≠ csem 0) (n : ℕ) :
    (levAts L lv : sProp 𝕄) ⊢ MayWait (c : Thread nD τ) s () (owedAt c n) :=
  mayWait_below c s _ fun g u hg => by
    rw [lv_other c () s h2 h0]
    unfold owedAt at hg
    split at hg
    · rcases oweAll_pos hg with rfl | rfl
      · exact ⟨rfl, by rw [lv_recv]; decide⟩
      · exact ⟨rfl, by rw [lv_bar]; decide⟩
    · split at hg
      · obtain rfl := oweCopy_pos hg
        exact ⟨rfl, by rw [lv_recv]; decide⟩
      · exact absurd hg (Nat.lt_irrefl 0)

/-! ## The shared records -/

/-- The invariants of all the cells, under the names `K`, and that each cell has reached round 0. -/
def records (K : Dev nD × Fin 3 → ℕ) : sProp 𝕄 :=
  iprop((bigSep Finset.univ fun ck : Dev nD × Fin 3 => cellInv ER (sched m) (K ck) (cell ck.2 ck.1))
    ∗ bigSep Finset.univ fun ck : Dev nD × Fin 3 => reached ER (cell ck.2 ck.1) 0)

/-- The records can be shared. -/
instance records_persistent (K : Dev nD × Fin 3 → ℕ) : BI.Persistent (records m K) := by unfold records; infer_instance

/-- The records hold each cell's invariant. -/
theorem records_inv (K : Dev nD × Fin 3 → ℕ) (k : Fin 3) (c : Dev nD) : records m K ⊢ cellInv ER (sched m) (K (c, k)) (cell k c) := by
  have h : bigSep Finset.univ (fun ck : Dev nD × Fin 3 => (cellInv ER (sched m) (K ck) (cell ck.2 ck.1) : sProp 𝕄)) ⊢ cellInv ER (sched m) (K (c, k)) (cell k c) :=
    bigSep_elim (Finset.mem_univ (c, k))
  unfold records
  iintro ⟨H, -⟩
  iapply h; iexact H

/-- The records say that each cell has reached round 0. -/
theorem records_reached (K : Dev nD × Fin 3 → ℕ) (k : Fin 3) (c : Dev nD) : records m K ⊢ reached ER (cell k c) 0 := by
  have h : bigSep Finset.univ (fun ck : Dev nD × Fin 3 => (reached ER (cell ck.2 ck.1) 0 : sProp 𝕄)) ⊢ reached ER (cell k c) 0 :=
    bigSep_elim (Finset.mem_univ (c, k))
  unfold records
  iintro ⟨-, H⟩
  iapply h; iexact H

end Cert.Exchange

end
-- ==== Proof.Body.lean ====
module

public import proofs.«01_k».proof.Proof.Protocol
public import Idealize.ShloMosaic.Lib.LaneScatter.Own
public import Idealize.ShloMosaic.Lib.VecWindow

/-! # One grid point of the kernel

What a device holds before each point, and the body's run from it to what it holds before the next. -/

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- No loop needs a bound. -/
abbrev 𝒱₀ : Variants := Variants.none

/-! ## What a device holds between points -/

/-- What the device keeps for the transfer at the last point: its place at the send and the receive semaphore, the right to
    raise its own send semaphore and its mate's receive semaphore, and that its own receive semaphore will be raised. -/
def toSend (c : Dev nD) : sProp 𝕄 :=
  iprop(atPos ER (cell 1 c) 0 ∅ 0 ∗ atPos ER (cell 2 c) 0 ∅ 0
    ∗ dutyTok ER (cell 1 c) 0 () ∗ dutyTok ER (cell 2 (mate c)) 0 () ∗ cred (tallyAt (cell 2 c) () N))

/-- What it has besides for the handshake at the first point. -/
def toGreet (c : Dev nD) : sProp 𝕄 :=
  iprop(atPos ER (cell 0 c) 0 ∅ 0 ∗ dutyTok ER (cell 0 (mate c)) 0 () ∗ cred (tallyAt (cell 0 c) () 1) ∗ levAts L lv)

/-- Before the first point. -/
def atStart (c : Dev nD) : sProp 𝕄 := iprop((∃ K, records m K) ∗ toGreet c ∗ toSend c)

/-- Before point `n`, the handshake done: slot 0 filled by the points before, the mate's slot 1 in hand. -/
def between (c : Dev nD) (n : ℕ) : sProp 𝕄 :=
  iprop((∃ K, records m K) ∗ semVal (cell 0 c) 0 ∗ toSend c
    ∗ (∃ f, ⌜Filled m c n f⌝ ∗ slotAt 0 c f) ∗ ∃ f, slotAt 1 (mate c) f)

/-- After the last point. -/
def atEnd (c : Dev nD) : sProp 𝕄 :=
  iprop(slotAt 0 c (sums m c) ∗ slotAt 1 c (sums m (mate c)) ∗ semVal (cell 0 c) 0 ∗ semVal (cell 1 c) 0 ∗ semVal (cell 2 c) 0)

/-- What device `c` holds before point `n`. -/
def holds (c : Dev nD) (n : ℕ) : sProp 𝕄 :=
  if n = 0 then iprop(atStart m c ∗ (∃ f, slotAt 0 c f) ∗ ∃ f, slotAt 1 c f)
  else if n < 8 then between m c n
  else atEnd m c

/-- The pipeline's proof data: the arrays as launched, each staging buffer's contents after a point, what the device holds
    and owes. -/
def dat (_ : Fin 1) (c : Dev nD) : Dat τ (Elt F) Unit ℕ UU ℕ cfg0 c where
  A w := V m c (Pipeline.arrRef spec0 w)
  after w t := match w with
    | ⟨0, _⟩ => iblk m c 0 t
    | ⟨1, _⟩ => result m c
  Φ t := holds m c t.val
  q _ := fullShare
  owed t := owedAt c t.val

/-- The body finds window 0's block of `x` in its staging buffer. -/
theorem before_x (c : Dev nD) (t : Fin cfg0.N) (d) : (dat m 0 c).before 0 t d = iblk m c 0 t := by
  unfold Dat.before; rw [if_pos (fetch0_0 t)]; rfl

/-! ## Whole staging buffers -/

/-- A whole load from a staging buffer reads what it is owned at. -/
theorem read_full {sp : Space} {s : Shape} {e : EltTy} (M : Memref sig .tc sp s e) {off : Fin s.rank → ℕ} (inb : ∀ a, off a + s.size a ≤ s.size a)
    (f : M.view.ty.Contents (Elt F)) : M.view.readAt (Elt F) (Rect.unit off s.size inb).toLoadRect f = M.view.read (Elt F) f :=
  View.readAt_full M.view f inb

/-- A whole store into a staging buffer leaves what was stored. -/
theorem write_full {sp : Space} {s : Shape} {e : EltTy} (M : Memref sig .tc sp s e) {off : Fin s.rank → ℕ} (inb : ∀ a, off a + s.size a ≤ s.size a)
    (f : M.view.ty.Contents (Elt F)) (w : s.Idx → Elt F e) :
    M.view.read (Elt F) ((M.access (Rect.unit off s.size inb)).write (Elt F) f w Finset.univ) = w :=
  (View.readAt_full M.view _ inb).symm.trans
    (View.read_write_univ (Val := Elt F) (v := M.access (Rect.unit off s.size inb)) f w)

/-- The middle of every point: load the block of `x`, read the rows of slot 0 about to be overwritten, store the block's row sums there. -/
theorem collect (c : Dev nD) (t : Fin cfg0.N) (M : Memref sig .tc .vmem S256x1024 .f32) (f : Both F) (hf : Filled m c t.val f)
    {h1 : M.view.LoadsAt (Rect.unit (s := S256x1024) ![0, 0] S256x1024.size inb_S256x1024_S256x1024_0_0).toLoadRect}
    {h2 : comm.view.LoadsAt (rowsRect (grid0.coords t)).toLoadRect} {h3 : (comm.access (rowsRect (grid0.coords t))).Stores Finset.univ}
    {h4} {α : Type} {Q : α → sProp 𝕄} {k : PUnit → Prog (TpuEff nD τ sig (Elt F) Λ₀ .tc) α} :
    iprop(owns (c : Thread nD τ) M fullShare (iblk m c 0 t) ∗ slotAt 0 c f)
      ⊢ iprop(((owns (c : Thread nD τ) M fullShare (iblk m c 0 t) ∗ ∃ g, ⌜Filled m c (t.val + 1) g⌝ ∗ slotAt 0 c g)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load M (Rect.unit (s := S256x1024) ![0, 0] S256x1024.size inb_S256x1024_S256x1024_0_0).toLoadRect h1) fun v =>
                .op (.load comm (rowsRect (grid0.coords t)).toLoadRect h2) fun _ =>
                .op (.store comm (rowsRect (grid0.coords t)) (k0_pay1 v) Finset.univ h3 h4) k) Q) := by
  unfold owns slotAt
  iintro ⟨⟨%x, %hx, Hx⟩, Hs⟩ Hk
  iapply (wp_load 𝒱₀ (c : Thread nD τ) none Set.univ (m := M) (View.setOn_subset_set _ _)) $$ Hx; iintro Hx
  rw [read_full M _ x, hx]
  iapply (wp_load 𝒱₀ (c : Thread nD τ) none Set.univ (m := comm) (load_rows_set _)) $$ Hs; iintro Hs
  iapply (wp_store 𝒱₀ (c : Thread nD τ) none Set.univ (m := comm) (r := rowsRect (grid0.coords t)) (Mk := Finset.univ) (access_rows_set _)) $$ Hs; iintro Hs
  iapply Hk
  isplitl [Hx]
  · iexists x; isplitr; · ipureintro; exact hx
    iexact Hx
  iexists _
  isplitr; · ipureintro; exact fill m c t f hf
  iexact Hs

/-- The handshake: raise the mate's barrier semaphore, giving it slot 1; wait for the mate's signal, receiving its slot 1. -/
theorem greet (c n : Dev nD) (hn : n = mate c) (K : Dev nD × Fin 3 → ℕ) (W : Waits sig Unit) (f : Both F)
    {α : Type} {Q : α → sProp 𝕄} {k : PUnit → Prog (TpuEff nD τ sig (Elt F) Λ₀ .tc) α} :
    iprop(records m K ∗ toGreet c ∗ slotAt 1 c f ∗ owes (c : Thread nD τ) (oweAll c) W)
      ⊢ iprop(((semVal (cell 0 c) 0 ∗ (∃ g, slotAt 1 (mate c) g) ∗ owes (c : Thread nD τ) (oweCopy c) (insert (csem 0, ()) W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) barS (1#32).toNat) fun _ => .op (.semWait barS (1#32).toNat) k) Q) := by
  subst hn
  unfold toGreet
  iintro ⟨#HR, ⟨Hat, Htok, Hcr, #Hlev⟩, Hs, HO⟩ Hk
  ihave #HIc := (records_inv m K 0 c) $$ HR
  ihave #HIm := (records_inv m K 0 (mate c)) $$ HR
  ihave #Hrm := (records_reached m K 0 (mate c)) $$ HR
  iapply (Rounds.wp_signal 𝒱₀ ER (sched m) (c : Thread nD τ) none (dst := (mate c : Thread nD τ)) (κ := K (mate c, 0))
      (d := ()) (mem_duties m 0 (mate c)) ((amount_cell m 0 (mate c)).trans rfl) () (oweCopy c) rfl) $$ [HO Htok Hs]
  · isplitr; · iexact HIm
    isplitl [HO]; · iexact HO
    isplitl [Htok]; · iexact Htok
    isplitl [Hs]
    · rw [payload_cell m 0 (mate c)]; unfold handed; dsimp only; rw [mate_mate]
      iexists f; iexact Hs
    iexact Hrm
  iintro HO
  iapply (Rounds.wp_wait_rest_token 𝒱₀ ER (sched m) (c : Thread nD τ) none (κ := K (c, 0))
      (wpE_semWait_eq 𝒱₀ (c : Thread nD τ) none Set.univ) (Set.mem_univ _) () (O := oweCopy c) (W := W) (R := 0) (m := 0) (T := ∅)
      ((Nat.zero_add _).trans (expect_cell m 0 c).symm)) $$ [Hcr HO Hat]
  · isplitr; · iexact HIc
    isplitl [Hcr]; · iexact Hcr
    isplitl [HO]; · iexact HO
    isplitr; · iapply (mayWait_bar c); iexact Hlev
    iexact Hat
  iintro ⟨HO, Hat, -, Hpay⟩
  ihave Hp := (Entails.of_eq (rest_cell m 0 c)) $$ Hpay
  unfold handed; dsimp only
  imod (Rounds.cell_close ER (sched m) (Set.mem_univ (K (c, 0))) (fun h => h) (R := 0 + 1) (duties_after m (cell 0 c))) $$ [Hat] with Hz
  · isplitr; · iexact HIc
    iexact Hat
  iapply Hk
  isplitl [Hz]; · iexact Hz
  isplitl [Hp]; · iexact Hp
  iexact HO

/-- The transfer's copy of slot 0, as it lands in the mate's slot 1, is what the mate's receive semaphore promises. -/
theorem landed (c : Dev nD) (g : Both F) :
    (slotAt 1 (mate c) (slot1.view.write (Elt F) g (slot0.view.read (Elt F) (sums m c)) Finset.univ) : sProp 𝕄)
      = (sched m).payload (cell 2 (mate c)) 0 () := by
  rw [payload_cell m 2 (mate c)]; unfold handed; dsimp only; rw [mate_mate]
  exact slotAt_congr (landing (sums m c) g (sums_level m c))

/-- The transfer, issued: slot 0 and the mate's slot 1 go to it. -/
theorem send (c n : Dev nD) (hn : n = mate c) (K : Dev nD × Fin 3 → ℕ) (W : Waits sig Unit) (g : Both F)
    {hsc} {hsrc : slot0.view.WordExact} {hdst : slot1.view.WordExact}
    {hsem : DmaTarget.Typed .vmem (.dma recvS) (.remote (Dev.tc n : Thread nD τ) slot1 (.dma sendS) hsc)}
    {α : Type} {Q : α → sProp 𝕄} {k : PUnit → Prog (TpuEff nD τ sig (Elt F) Λ₀ .tc) α} :
    iprop(records m K ∗ slotAt 0 c (sums m c) ∗ slotAt 1 (mate c) g ∗ owes (c : Thread nD τ) (oweCopy c) W
        ∗ dutyTok ER (cell 1 c) 0 () ∗ dutyTok ER (cell 2 (mate c)) 0 ())
      ⊢ iprop(((cred (tallyAt (cell 1 c) () N) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot1 (.dma sendS) hsc) (.dma recvS) hsrc hdst hsem) k) Q) := by
  subst hn
  iintro ⟨#HR, Hs, Hd, HO, Ht1, Ht2⟩ Hk
  ihave #HI1 := (records_inv m K 1 c) $$ HR
  ihave #HI2 := (records_inv m K 2 (mate c)) $$ HR
  ihave #Hr1 := (records_reached m K 1 c) $$ HR
  ihave #Hr2 := (records_reached m K 2 (mate c)) $$ HR
  have e1 : (slotAt 0 c (sums m c) : sProp 𝕄) ⊢ (slot0.view.loc (c : Thread nD τ) ↦[slot0.view.set]{fullShare} (sums m c)) := by
    rw [slot0_set]; exact Entails.refl _
  have e2 : (slotAt 1 (mate c) g : sProp 𝕄) ⊢ (slot1.view.loc (mate c : Thread nD τ) ↦[slot1.view.set]{fullShare} g) := by
    rw [slot1_set]; exact Entails.refl _
  ihave Hs' := e1 $$ Hs
  ihave Hd' := e2 $$ Hd
  iapply (Rounds.wp_send_pointsTo 𝒱₀ ER (sched m) (c : Thread nD τ) none (κ₁ := K (c, 1)) (κ₂ := K (mate c, 2))
    (r₁ := 0) (r₂ := 0) (d₁ := ()) (d₂ := ()) (fd := g) (mem_duties m 1 c) (mem_duties m 2 (mate c)) () () N rfl
    (amount_cell m 1 c) (amount_cell m 2 (mate c)) 0 (show oweCopy c = 0 + tallyAt (cell 2 (mate c)) () N from (zero_add _).symm) (W := W)
    (by rw [slot0_set]; exact Entails.of_eq (payload_cell m 1 c).symm)
    (by rw [slot1_set]; exact Entails.of_eq (landed m c g))) $$ [Hs' Hd' HO Ht1 Ht2]
  · isplitr; · iexact HI1
    isplitr; · iexact HI2
    isplitl [Hs']; · iexact Hs'
    isplitl [Hd']; · iexact Hd'
    isplitl [HO]; · iexact HO
    isplitl [Ht1]; · iexact Ht1
    isplitr; · iexact Hr1
    isplitl [Ht2]; · iexact Ht2
    iexact Hr2
  iexact Hk

/-- The exchange: issue the transfer, wait for it to have left, wait for the mate's to have arrived. Slot 0 comes back, and slot 1
    with the mate's row sums. -/
theorem exchange (c n : Dev nD) (hn : n = mate c) (W : Waits sig Unit)
    {hsc} {hsrc : slot0.view.WordExact} {hdst : slot1.view.WordExact}
    {hsem : DmaTarget.Typed .vmem (.dma recvS) (.remote (Dev.tc n : Thread nD τ) slot1 (.dma sendS) hsc)}
    {hw1 : slot1.view.WordExact} {hw2 : slot0.view.WordExact} {hw3 : slot0.view.WordExact} {hw4 : slot1.view.WordExact}
    {α : Type} {Q : α → sProp 𝕄} {k : PUnit → Prog (TpuEff nD τ sig (Elt F) Λ₀ .tc) α} :
    iprop((∃ K, records m K) ∗ toSend c ∗ slotAt 0 c (sums m c) ∗ (∃ g, slotAt 1 (mate c) g) ∗ owes (c : Thread nD τ) (oweCopy c) W)
      ⊢ iprop(((slotAt 0 c (sums m c) ∗ slotAt 1 c (sums m (mate c)) ∗ semVal (cell 1 c) 0 ∗ semVal (cell 2 c) 0
              ∗ owes (c : Thread nD τ) 0 (insert (csem 2, ()) (insert (csem 1, ()) W)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot1 (.dma sendS) hsc) (.dma recvS) hsrc hdst hsem) fun _ =>
                .op (.waitDma2 sendS slot1 slot0 hw1 hw2) fun _ => .op (.waitDma2 recvS slot0 slot1 hw3 hw4) k) Q) := by
  unfold toSend
  iintro ⟨⟨%K, #HR⟩, ⟨Hat1, Hat2, Ht1, Ht2, Hc2⟩, Hs, ⟨%g, Hd⟩, HO⟩ Hk
  ihave #HI1 := (records_inv m K 1 c) $$ HR
  ihave #HI2 := (records_inv m K 2 c) $$ HR
  iapply (send m c n hn K W g) $$ [Hs Hd HO Ht1 Ht2]
  · isplitr; · iexact HR
    isplitl [Hs]; · iexact Hs
    isplitl [Hd]; · iexact Hd
    isplitl [HO]; · iexact HO
    isplitl [Ht1] <;> iassumption
  iintro ⟨Hc1, HO⟩
  iapply (Rounds.wp_wait_rest_token 𝒱₀ ER (sched m) (c : Thread nD τ) none (κ := K (c, 1))
      (wpE_waitDma2_eq 𝒱₀ (c : Thread nD τ) none Set.univ (hsrc := hw1) (hdst := hw2)) (Set.mem_univ _) () (O := 0) (W := W) (R := 0) (m := 0) (T := ∅)
      ((Nat.zero_add _).trans (expect_cell m 1 c).symm)) $$ [Hc1 HO Hat1]
  · isplitr; · iexact HI1
    isplitl [Hc1]; · iexact Hc1
    isplitl [HO]; · iexact HO
    isplitr; · rw [MayWait_zero]; iempintro
    iexact Hat1
  iintro ⟨HO, Hat1, -, Hp1⟩
  iapply (Rounds.wp_wait_rest_token 𝒱₀ ER (sched m) (c : Thread nD τ) none (κ := K (c, 2))
      (wpE_waitDma2_eq 𝒱₀ (c : Thread nD τ) none Set.univ (hsrc := hw3) (hdst := hw4)) (Set.mem_univ _) () (O := 0) (W := insert (csem 1, ()) W) (R := 0) (m := 0) (T := ∅)
      ((Nat.zero_add _).trans (expect_cell m 2 c).symm)) $$ [Hc2 HO Hat2]
  · isplitr; · iexact HI2
    isplitl [Hc2]; · iexact Hc2
    isplitl [HO]; · iexact HO
    isplitr; · rw [MayWait_zero]; iempintro
    iexact Hat2
  iintro ⟨HO, Hat2, -, Hp2⟩
  ihave Hs := (Entails.of_eq (rest_cell m 1 c)) $$ Hp1
  ihave Hd := (Entails.of_eq (rest_cell m 2 c)) $$ Hp2
  unfold handed; dsimp only
  imod (Rounds.cell_close ER (sched m) (Set.mem_univ (K (c, 1))) (fun h => h) (R := 0 + 1) (duties_after m (cell 1 c))) $$ [Hat1] with Hz1
  · isplitr; · iexact HI1
    iexact Hat1
  imod (Rounds.cell_close ER (sched m) (Set.mem_univ (K (c, 2))) (fun h => h) (R := 0 + 1) (duties_after m (cell 2 c))) $$ [Hat2] with Hz2
  · isplitr; · iexact HI2
    iexact Hat2
  iapply Hk
  isplitl [Hs]; · iexact Hs
  isplitl [Hd]; · iexact Hd
  isplitl [Hz1]; · iexact Hz1
  isplitl [Hz2]; · iexact Hz2
  iexact HO

/-- The last load of slot 0 stays in slot 0. -/
theorem load_slot0 : comm.view.setOn rect0.toLoadRect.set ⊆ half 0 := by
  intro j hj
  obtain ⟨x, hx, rfl⟩ := Finset.mem_map.mp hj
  have : x ∈ rect0.set := hx
  rw [rect0_set] at this; exact this

/-- The load of slot 1 stays in slot 1. -/
theorem load_slot1 : comm.view.setOn rect1.toLoadRect.set ⊆ half 1 := by
  intro j hj
  obtain ⟨x, hx, rfl⟩ := Finset.mem_map.mp hj
  have : x ∈ rect1.set := hx
  rw [rect1_set] at this; exact this

/-- The end of the last point: read both slots, add them into the output's staging buffer. -/
theorem combine (c : Dev nD) (M : Memref sig .tc .vmem S2048x1 .f32) (d : S2048x1.Idx → Elt F .f32)
    {h1 : comm.view.LoadsAt rect0.toLoadRect} {h2 : comm.view.LoadsAt rect1.toLoadRect}
    {h3 : M.view.LoadsAt (Rect.unit (s := S2048x1) ![0, 0] S2048x1.size inb_S2048x1_S2048x1_0_0).toLoadRect}
    {h4 : (M.access (Rect.unit (s := S2048x1) ![0, 0] S2048x1.size inb_S2048x1_S2048x1_0_0)).Stores Finset.univ}
    {h5} {α : Type} {Q : α → sProp 𝕄} {k : PUnit → Prog (TpuEff nD τ sig (Elt F) Λ₀ .tc) α} :
    iprop(slotAt 0 c (sums m c) ∗ slotAt 1 c (sums m (mate c)) ∗ owns (c : Thread nD τ) M fullShare d)
      ⊢ iprop(((slotAt 0 c (sums m c) ∗ slotAt 1 c (sums m (mate c)) ∗ owns (c : Thread nD τ) M fullShare (result m c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load comm rect0.toLoadRect h1) fun a => .op (.load comm rect1.toLoadRect h2) fun b =>
                .op (.load M (Rect.unit (s := S2048x1) ![0, 0] S2048x1.size inb_S2048x1_S2048x1_0_0).toLoadRect h3) fun _ =>
                .op (.store M (Rect.unit (s := S2048x1) ![0, 0] S2048x1.size inb_S2048x1_S2048x1_0_0) (k0_pay2 a b) Finset.univ h4 h5) k) Q) := by
  unfold owns slotAt
  iintro ⟨Ha, Hb, ⟨%x, %hx, Hx⟩⟩ Hk
  iapply (wp_load 𝒱₀ (c : Thread nD τ) none Set.univ (m := comm) load_slot0) $$ Ha; iintro Ha
  iapply (wp_load 𝒱₀ (c : Thread nD τ) none Set.univ (m := comm) load_slot1) $$ Hb; iintro Hb
  iapply (wp_load 𝒱₀ (c : Thread nD τ) none Set.univ (m := M) (View.setOn_subset_set _ _)) $$ Hx; iintro Hx
  iapply (wp_store 𝒱₀ (c : Thread nD τ) none Set.univ (m := M)
    (r := Rect.unit (s := S2048x1) ![0, 0] S2048x1.size inb_S2048x1_S2048x1_0_0) (Mk := Finset.univ)
    ((View.setOn_subset_set _ _).trans (View.set_slice_subset _ _))) $$ Hx; iintro Hx
  iapply Hk
  isplitl [Ha]; · iexact Ha
  isplitl [Hb]; · iexact Hb
  iexists ((M.access (Rect.unit (s := S2048x1) ![0, 0] S2048x1.size inb_S2048x1_S2048x1_0_0)).write (Elt F) x (result m c) Finset.univ)
  isplitr; · ipureintro; exact write_full M _ x _
  iexact Hx

/-! ## The three kinds of points -/

/-- What the body is given at point `t`. -/
def given (c : Dev nD) (t : Fin cfg0.N) : sProp 𝕄 :=
  iprop(holds m c t.val ∗ (dat m 0 c).owesAt () t.castSucc
    ∗ (∃ d, owns (c : Thread nD τ) (st0_0 t) fullShare ((dat m 0 c).before 0 t d))
    ∗ (∃ d, owns (c : Thread nD τ) (st0_1 t) fullShare ((dat m 0 c).before 1 t d)))

/-- What it leaves at a point other than the last, the output's staging buffer as found. -/
def leftEarly (c : Dev nD) (t : Fin cfg0.N) : sProp 𝕄 :=
  iprop(holds m c (t.val + 1) ∗ (dat m 0 c).owesAt () t.succ ∗ owns (c : Thread nD τ) (st0_0 t) fullShare (iblk m c 0 t)
    ∗ (∃ d, owns (c : Thread nD τ) (st0_1 t) fullShare ((dat m 0 c).before 1 t d)))

/-- What it leaves at the last point. -/
def leftLast (c : Dev nD) (t : Fin cfg0.N) : sProp 𝕄 :=
  iprop(holds m c (t.val + 1) ∗ (dat m 0 c).owesAt () t.succ ∗ owns (c : Thread nD τ) (st0_0 t) fullShare (iblk m c 0 t)
    ∗ owns (c : Thread nD τ) (st0_1 t) fullShare (result m c))

/-- What a device holds before the first point. -/
theorem holds_start (c : Dev nD) : holds m c 0 = iprop(atStart m c ∗ (∃ f, slotAt 0 c f) ∗ ∃ f, slotAt 1 c f) := if_pos rfl

/-- What it holds before each later point. -/
theorem holds_between (c : Dev nD) {n : ℕ} (h0 : n ≠ 0) (h : n < 8) : holds m c n = between m c n :=
  (if_neg h0).trans (if_pos h)

/-- What it holds after the last. -/
theorem holds_end (c : Dev nD) : holds m c 8 = atEnd m c := (if_neg (by decide)).trans (if_neg (by decide))

/-- The tallies owed before point `t`, at some set of waits made. -/
theorem owes_open (c : Dev nD) (t : Fin (cfg0.N + 1)) :
    ((dat m 0 c).owesAt () t : sProp 𝕄) ⊢ iprop(∃ W, owes (c : Thread nD τ) (owedAt c t.val) W) := by
  unfold Dat.owesAt Pipeline.owesWithin
  iintro ⟨%W, %hW, HO⟩
  iexists W; iexact HO

/-- The debts of a point, closed again over whatever waits were made. -/
theorem owes_close (c : Dev nD) (t : Fin (cfg0.N + 1)) (W : Waits sig Unit) :
    (owes (c : Thread nD τ) (owedAt c t.val) W : sProp 𝕄) ⊢ (dat m 0 c).owesAt () t := by
  unfold Dat.owesAt Pipeline.owesWithin
  iintro HO
  iexists W
  isplitr; · ipureintro; exact fun _ _ => Or.inl trivial
  iexact HO

/-- The first point: the handshake, then the block. -/
theorem run_first (c : Dev nD) (t : Fin cfg0.N) (ht : t.val = 0) :
    given m c t ⊢ wp frame (wpE (defs₀ (F := F)) 𝒱₀ (c : Thread nD τ) none) Set.univ (bodyAt0 t) fun _ => leftEarly m c t := by
  have h1 : k0_cond1 (grid0.coords t) = 1#1 := (first_iff t).mpr ht
  have h2 : ¬ k0_cond2 (grid0.coords t) = 1#1 := fun h => absurd ((last_iff t).mp h) (by omega)
  unfold bodyAt0
  simp only [cc0_body_eq_skeleton]; unfold cc0_body_skel
  simp only [semSignalWord, semWaitWord, Prog.lift, Prog.bind_op, Prog.bind_ret, Prog.pure_eq_ret, wp_deviceId, dif_pos h1, dif_neg h2]
  unfold given
  rw [show holds m c t.val = _ from (congrArg (holds m c) ht).trans (holds_start m c)]
  unfold atStart
  iintro ⟨⟨⟨⟨%K, #HR⟩, Hg, Hsend⟩, ⟨%f, Hs⟩, ⟨%f', Hd⟩⟩, Ho, ⟨%d0, Hx⟩, Hout⟩
  rw [before_x]
  ihave Ho := (owes_open m c t.castSucc) $$ Ho
  icases Ho with ⟨%W, HO⟩
  rw [show owedAt c t.castSucc.val = oweAll c from (congrArg (owedAt c) ht).trans (owedAt_zero c)]
  iapply (greet m c _ (signalled c _) K W f') $$ [Hg Hd HO]
  · isplitr; · iexact HR
    isplitl [Hg]; · iexact Hg
    isplitl [Hd] <;> iassumption
  iintro ⟨Hz, Hd, HO⟩
  iapply (collect m c t (st0_0 t) f (ht ▸ filled_zero m c f)) $$ [Hx Hs]
  · isplitl [Hx] <;> iassumption
  iintro ⟨Hx, Hs⟩
  rw [wp_ret]; imodintro
  unfold leftEarly
  rw [holds_between m c (n := t.val + 1) (by omega) (by omega)]
  unfold between
  isplitl [Hz Hsend Hs Hd]
  · isplitr; · iexists K; iexact HR
    isplitl [Hz]; · iexact Hz
    isplitl [Hsend]; · iexact Hsend
    isplitl [Hs] <;> iassumption
  isplitl [HO]
  · iapply (owes_close m c t.succ)
    rw [show owedAt c t.succ.val = oweCopy c from owedAt_mid c (n := t.val + 1) (by omega) (by omega)]
    iexact HO
  isplitl [Hx] <;> iassumption

/-- A point between the first and the last: the block alone. -/
theorem run_middle (c : Dev nD) (t : Fin cfg0.N) (h0 : t.val ≠ 0) (h7 : t.val < 7) :
    given m c t ⊢ wp frame (wpE (defs₀ (F := F)) 𝒱₀ (c : Thread nD τ) none) Set.univ (bodyAt0 t) fun _ => leftEarly m c t := by
  have h1 : ¬ k0_cond1 (grid0.coords t) = 1#1 := fun h => h0 ((first_iff t).mp h)
  have h2 : ¬ k0_cond2 (grid0.coords t) = 1#1 := fun h => absurd ((last_iff t).mp h) (by omega)
  unfold bodyAt0
  simp only [cc0_body_eq_skeleton]; unfold cc0_body_skel
  simp only [Prog.lift, Prog.bind_op, Prog.bind_ret, Prog.pure_eq_ret, wp_deviceId, dif_neg h1, dif_neg h2]
  unfold given
  rw [holds_between m c h0 (by omega)]
  unfold between
  iintro ⟨⟨HR, Hz, Hsend, ⟨%f, %hf, Hs⟩, Hd⟩, Ho, ⟨%d0, Hx⟩, Hout⟩
  rw [before_x]
  ihave Ho := (owes_open m c t.castSucc) $$ Ho
  icases Ho with ⟨%W, HO⟩
  rw [show owedAt c t.castSucc.val = oweCopy c from owedAt_mid c (n := t.val) h0 (by omega)]
  iapply (collect m c t (st0_0 t) f hf) $$ [Hx Hs]
  · isplitl [Hx] <;> iassumption
  iintro ⟨Hx, Hs⟩
  rw [wp_ret]; imodintro
  unfold leftEarly
  rw [holds_between m c (n := t.val + 1) (by omega) (by omega)]
  unfold between
  isplitl [HR Hz Hsend Hs Hd]
  · isplitl [HR]; · iexact HR
    isplitl [Hz]; · iexact Hz
    isplitl [Hsend]; · iexact Hsend
    isplitl [Hs] <;> iassumption
  isplitl [HO]
  · iapply (owes_close m c t.succ)
    rw [show owedAt c t.succ.val = oweCopy c from owedAt_mid c (n := t.val + 1) (by omega) (by omega)]
    iexact HO
  isplitl [Hx] <;> iassumption

/-- The last point: the block, the exchange, the sum. -/
theorem run_last (c : Dev nD) (t : Fin cfg0.N) (ht : t.val = 7) :
    given m c t ⊢ wp frame (wpE (defs₀ (F := F)) 𝒱₀ (c : Thread nD τ) none) Set.univ (bodyAt0 t) fun _ => leftLast m c t := by
  have h1 : ¬ k0_cond1 (grid0.coords t) = 1#1 := fun h => absurd ((first_iff t).mp h) (by omega)
  have h2 : k0_cond2 (grid0.coords t) = 1#1 := (last_iff t).mpr ht
  unfold bodyAt0
  simp only [cc0_body_eq_skeleton]; unfold cc0_body_skel
  simp only [k0_part1_eq_skeleton]; unfold k0_part1_skel
  simp only [Prog.lift, Prog.bind_op, Prog.bind_ret, Prog.pure_eq_ret, wp_deviceId, dif_neg h1, dif_pos h2]
  unfold given
  rw [holds_between m c (n := t.val) (by omega) (by omega)]
  unfold between
  iintro ⟨⟨HR, Hz, Hsend, ⟨%f, %hf, Hs⟩, Hd⟩, Ho, ⟨%d0, Hx⟩, ⟨%d1, Hout⟩⟩
  rw [before_x]
  ihave Ho := (owes_open m c t.castSucc) $$ Ho
  icases Ho with ⟨%W, HO⟩
  rw [show owedAt c t.castSucc.val = oweCopy c from owedAt_mid c (n := t.val) (by omega) (by omega)]
  iapply (collect m c t (st0_0 t) f hf) $$ [Hx Hs]
  · isplitl [Hx] <;> iassumption
  iintro ⟨Hx, ⟨%g, %hg, Hs⟩⟩
  ihave Hs := (Entails.of_eq (slotAt_congr (Filled.all m hg (by omega)))) $$ Hs
  iapply (exchange m c _ (addressed c _) W) $$ [HR Hsend Hs Hd HO]
  · isplitl [HR]; · iexact HR
    isplitl [Hsend]; · iexact Hsend
    isplitl [Hs]; · iexact Hs
    isplitl [Hd] <;> iassumption
  iintro ⟨Hs, Hd, Hz1, Hz2, HO⟩
  iapply (combine m c (st0_1 t) ((dat m 0 c).before 1 t d1)) $$ [Hs Hd Hout]
  · isplitl [Hs]; · iexact Hs
    isplitl [Hd] <;> iassumption
  iintro ⟨Hs, Hd, Hout⟩
  rw [wp_ret]; imodintro
  unfold leftLast
  rw [show holds m c (t.val + 1) = atEnd m c from (congrArg (fun n => holds m c (n + 1)) ht).trans (holds_end m c)]
  unfold atEnd
  isplitl [Hz Hz1 Hz2 Hs Hd]
  · isplitl [Hs]; · iexact Hs
    isplitl [Hd]; · iexact Hd
    isplitl [Hz]; · iexact Hz
    isplitl [Hz1] <;> iassumption
  isplitl [HO]
  · iapply (owes_close m c t.succ)
    rw [show owedAt c t.succ.val = 0 from (congrArg (fun n => owedAt c (n + 1)) ht).trans (owedAt_end c)]
    iexact HO
  isplitl [Hx] <;> iassumption

/-- The output's staging buffer is only held, not written, exactly at the points before the last. -/
theorem idle_out (t : Fin cfg0.N) (h : t.val ≠ 7) : idle0 1 (grid0.coords t) = true := by
  show (!(k0_cond2 (grid0.coords t) == 1#1)) = true
  have : ¬ k0_cond2 (grid0.coords t) = 1#1 := fun e => h ((last_iff t).mp e)
  simpa using this

/-- The last point writes the result. -/
theorem busy_out (t : Fin cfg0.N) (h : t.val = 7) : idle0 1 (grid0.coords t) = false := by
  show (!(k0_cond2 (grid0.coords t) == 1#1)) = false
  have : k0_cond2 (grid0.coords t) = 1#1 := (last_iff t).mpr h
  simpa using this

/-- Only the last point sends the result out. -/
theorem kept_out (t : Fin cfg0.N) (h : t.val ≠ 7) : (win0 1).flush t = false := by
  have ht : t.val < 8 := t.isLt
  have : ¬ (win0 1).flush t = true := fun e => absurd ((flush0_1 t).mp e) (by omega)
  simpa using this

/-- The body meets the pipeline's obligation at every point. -/
theorem body_obligation (c : Dev nD) : BodyObligation (dat m 0 c) (defs₀ (F := F)) 𝒱₀ () Set.univ := fun t => by
  rw [bigSep_W0, bigSep_W0]
  dsimp only
  have ht : t.val < 8 := t.isLt
  by_cases h7 : t.val = 7
  · rw [busy_out t h7]
    exact run_last m c t h7
  · rw [idle_out t h7, kept_out t h7]
    by_cases h0 : t.val = 0
    · exact run_first m c t h0
    · exact run_middle m c t h0 (by omega)

end Cert.Exchange

end
-- ==== Proof.Launch.lean ====
module

public import proofs.«01_k».proof.Proof.Body
public import Idealize.ShloMosaic.Lib.Pipeline.CollectiveSegs

/-! # The launch

How the ghost state of the exchange is dealt to the devices, and the run of the whole kernel. -/

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: every semaphore at zero. -/
def start : MemSt nD τ sig (Elt F) := ⟨m, fun _ => 0, ρ⟩

/-! ## The ghost state at launch -/

/-- The exchange's cell of a device and one of its three semaphores. -/
def cellAt (ck : Dev nD × Fin 3) : GSem nD τ sig := cell ck.2 ck.1

/-- Different devices or semaphores, different cells. -/
theorem cellAt_injective : Function.Injective cellAt := fun a b h => by
  obtain ⟨h1, h2⟩ := cell_inj h
  exact Prod.ext h2 h1

/-- The one duty of each cell. -/
def dutyAt (ck : Dev nD × Fin 3) : GSem nD τ sig × ℕ × Unit := (cellAt ck, 0, ())

/-- Different cells, different duties. -/
theorem dutyAt_injective : Function.Injective dutyAt := fun _ _ h => cellAt_injective (congrArg Prod.fst h)

/-- Every cell of the exchange. -/
def allCells : Finset (GSem nD τ sig) := Finset.univ.map ⟨cellAt, cellAt_injective⟩

/-- Every duty of the exchange. -/
def allDuties : Finset (GSem nD τ sig × ℕ × Unit) := Finset.univ.map ⟨dutyAt, dutyAt_injective⟩

/-- The pipeline's ghost state beside the exchange's. -/
def ghost₀ : UU := (initOf (Pipeline.cells cfgs cellOf_inj) (Pipeline.launchToks cfgs cellOf_inj), initOf allCells allDuties)

/-- A cell's own share: the waiter's place in it, that round 0 is reached, the right to raise it. -/
def share (ck : Dev nD × Fin 3) : sProp 𝕄 :=
  iprop(atPos ER (cellAt ck) 0 ∅ 0 ∗ reached ER (cellAt ck) 0 ∗ dutyTok ER (cellAt ck) 0 ())

/-- What the launch makes for device `c`. -/
def made (c : Dev nD) : sProp 𝕄 := bigSep Finset.univ fun k : Fin 3 => iprop(roundState ER (sched m) (cellAt (c, k)) 0 ∗ share (c, k))

/-- What device `c` starts with, once the invariants stand: its places and the rights to raise the semaphores it raises. -/
def dealt (c : Dev nD) : sProp 𝕄 :=
  iprop((atPos ER (cell 0 c) 0 ∅ 0 ∗ atPos ER (cell 1 c) 0 ∅ 0 ∗ atPos ER (cell 2 c) 0 ∅ 0)
    ∗ dutyTok ER (cell 0 (mate c)) 0 () ∗ dutyTok ER (cell 1 c) 0 () ∗ dutyTok ER (cell 2 (mate c)) 0 ())

/-- The same, with the records every device shares. -/
def dealtAll (c : Dev nD) : sProp 𝕄 := iprop((∃ K, records m K) ∗ dealt c)

omit [FloatOps F] in
/-- A product over the three semaphores, written out. -/
theorem three (Φ : Fin 3 → sProp 𝕄) : bigSep Finset.univ Φ = iprop(Φ 0 ∗ Φ 1 ∗ Φ 2) :=
  bigSep_univ_eq_bigSepL [0, 1, 2] (by decide) (by decide) Φ

/-- The exchange's ghost state, made and sorted by device. -/
theorem make : BI.own (ER (initOf allCells allDuties)) ⊢ (|==> bigSep Finset.univ (made m) : sProp 𝕄) := by
  have byCell (Φ : GSem nD τ sig → sProp 𝕄) : bigSep allCells Φ = bigSep Finset.univ fun ck : Dev nD × Fin 3 => Φ (cellAt ck) := by
    unfold allCells; rw [bigSep_map]; rfl
  have byDuty : bigSep allDuties (fun x => (dutyTok ER x.1 x.2.1 x.2.2 : sProp 𝕄))
      = bigSep Finset.univ fun ck : Dev nD × Fin 3 => dutyTok ER (cellAt ck) 0 () := by
    unfold allDuties; rw [bigSep_map]; rfl
  have sorted : bigSep Finset.univ (made m) = iprop((bigSep Finset.univ fun ck : Dev nD × Fin 3 => roundState ER (sched m) (cellAt ck) 0)
      ∗ (bigSep Finset.univ fun ck : Dev nD × Fin 3 => atPos ER (cellAt ck) 0 ∅ 0)
      ∗ (bigSep Finset.univ fun ck : Dev nD × Fin 3 => reached ER (cellAt ck) 0)
      ∗ (bigSep Finset.univ fun ck : Dev nD × Fin 3 => dutyTok ER (cellAt ck) 0 ())) := by
    unfold made
    rw [← bigSep_univ_prod (fun ck : Dev nD × Fin 3 => iprop(roundState ER (sched m) (cellAt ck) 0 ∗ share ck))]
    unfold share
    rw [bigSep_sep', bigSep_sep', bigSep_sep']
  rw [sorted]
  iintro H
  imod (Rounds.fund ER (sched m) allCells allDuties) $$ H with ⟨Hst, Hr, Hat, Htok⟩
  imodintro
  ihave Hst := (Entails.of_eq (byCell fun g => roundState ER (sched m) g 0)) $$ Hst
  ihave Hat := (Entails.of_eq (byCell fun g => atPos ER g 0 ∅ 0)) $$ Hat
  ihave Hr := (Entails.of_eq (byCell fun g => reached ER g 0)) $$ Hr
  ihave Htok := (Entails.of_eq byDuty) $$ Htok
  isplitl [Hst]; · iexact Hst
  isplitl [Hat]; · iexact Hat
  isplitl [Hr] <;> iassumption

/-! ## The invariants -/

/-- The kernel's own two DMA semaphores. -/
abbrev osem : Fin 2 → SemLoc sig := fun | 0 => csem 1 | 1 => csem 2

/-- The two transfer semaphores are the kernel's own. -/
theorem own_sems : Pipeline.OwnSemFacts cfg0.spec osem := by decide

omit [FloatOps F] in
/-- The kernel's own semaphores on a device, written out. -/
theorem own_eq (c : Dev nD) : (Pipeline.ownSems0 (Ix := Unit) (Name := ℕ) (U := UU) (Lvl := ℕ) (Val := Elt F) (τ := τ) osem c : sProp 𝕄)
    = iprop(semVal (cell 1 c) 0 ∗ semVal (cell 2 c) 0) := by
  rw [Pipeline.ownSems0_eq_of_list c osem [0, 1] (by decide) (by decide)]; rfl

omit [FloatOps F] in
/-- The one semaphore that outlives the kernel is the barrier. -/
theorem barrier_eq (c : Dev nD) : (unscopedSems0 c : sProp 𝕄) = semVal (cell 0 c) 0 := by
  unfold unscopedSems0; rw [bigSep_eq_bigSepL_of_eq [csem 0] (by decide) (by decide)]; rfl

/-- A device's semaphores and its share of the launch's making, cell by cell. -/
theorem by_cell (c : Dev nD) :
    iprop(Pipeline.ownSems0 (Ix := Unit) (Name := ℕ) (U := UU) (Lvl := ℕ) (Val := Elt F) (τ := τ) osem c ∗ unscopedSems0 c ∗ made m c)
      ⊢ (bigSep Finset.univ fun k : Fin 3 =>
          iprop(semVal (cellAt (c, k)) 0 ∗ roundState ER (sched m) (cellAt (c, k)) 0 ∗ share (c, k)) : sProp 𝕄) := by
  unfold made
  rw [bigSep_sep' _ (fun k : Fin 3 => semVal (cellAt (c, k)) 0), own_eq, barrier_eq, three (fun k : Fin 3 => semVal (cellAt (c, k)) 0)]
  unfold cellAt
  iintro ⟨⟨H1, H2⟩, H0, H⟩
  isplitl [H0 H1 H2]
  · isplitl [H0]; · iexact H0
    isplitl [H1] <;> iassumption
  iexact H

/-- One cell's invariant, allocated. -/
theorem alloc (ck : Dev nD × Fin 3) :
    iprop(semVal (cellAt ck) 0 ∗ roundState ER (sched m) (cellAt ck) 0 ∗ share ck)
      ⊢ (|={Set.univ}=> iprop((∃ κ : ℕ, cellInv ER (sched m) κ (cellAt ck)) ∗ share ck) : sProp 𝕄) := by
  iintro ⟨Hv, Hst, Hsh⟩
  imod ((Rounds.body_intro ER (sched m) (cellAt ck)).trans inv_alloc) $$ [Hv Hst] with Hinv
  · isplitl [Hv] <;> iassumption
  imodintro
  isplitl [Hinv]; · iexact Hinv
  iexact Hsh

/-- The places and the rights, dealt: the rights to raise a barrier and a receive semaphore go to the mate. -/
theorem deal :
    iprop((bigSep Finset.univ fun ck : Dev nD × Fin 3 => atPos ER (cellAt ck) 0 ∅ 0)
        ∗ (bigSep Finset.univ fun ck : Dev nD × Fin 3 => dutyTok ER (cellAt ck) 0 ()))
      ⊢ (bigSep Finset.univ fun c : Dev nD => dealt c : sProp 𝕄) := by
  rw [bigSep_univ_prod (fun ck : Dev nD × Fin 3 => (atPos ER (cellAt ck) 0 ∅ 0 : sProp 𝕄)),
    bigSep_univ_prod (fun ck : Dev nD × Fin 3 => (dutyTok ER (cellAt ck) 0 () : sProp 𝕄)),
    bigSep_congr (s := Finset.univ) (fun (c : Dev nD) _ => three fun k : Fin 3 => (atPos ER (cellAt (c, k)) 0 ∅ 0 : sProp 𝕄)),
    bigSep_congr (s := Finset.univ) (fun (c : Dev nD) _ => three fun k : Fin 3 => (dutyTok ER (cellAt (c, k)) 0 () : sProp 𝕄))]
  unfold dealt cellAt
  rw [bigSep_sep' _ (fun c : Dev nD => (dutyTok ER (cell 0 c) 0 () : sProp 𝕄)),
    bigSep_sep' _ (fun c : Dev nD => (dutyTok ER (cell 1 c) 0 () : sProp 𝕄)),
    bigSep_univ_equiv mates (fun c : Dev nD => (dutyTok ER (cell 0 c) 0 () : sProp 𝕄)),
    bigSep_univ_equiv mates (fun c : Dev nD => (dutyTok ER (cell 2 c) 0 () : sProp 𝕄)),
    bigSep_sep' _ (fun c : Dev nD => iprop(atPos ER (cell 0 c) 0 ∅ 0 ∗ atPos ER (cell 1 c) 0 ∅ 0 ∗ atPos ER (cell 2 c) 0 ∅ 0 : sProp 𝕄)),
    bigSep_sep' _ (fun c : Dev nD => (dutyTok ER (cell 0 (mate c)) 0 () : sProp 𝕄)),
    bigSep_sep' _ (fun c : Dev nD => (dutyTok ER (cell 1 c) 0 () : sProp 𝕄))]
  iintro ⟨Hat, H0, H1, H2⟩
  isplitl [Hat]; · iexact Hat
  isplitl [H0]; · iexact H0
  isplitl [H1]; · iexact H1
  iexact H2

/-- A device takes the shared records beside its own share. -/
theorem with_records (K : Dev nD × Fin 3 → ℕ) (c : Dev nD) : iprop(records m K ∗ dealt c) ⊢ dealtAll m c := by
  unfold dealtAll
  iintro ⟨HR, Hd⟩
  isplitl [HR]
  · iexists K; iexact HR
  · iexact Hd

/-- The step all devices take together at launch: their semaphores go under invariants, known to all. -/
theorem settle :
    (bigSep Finset.univ fun c => iprop(Pipeline.ownSems0 (Ix := Unit) (Name := ℕ) (U := UU) (Lvl := ℕ) (Val := Elt F) (τ := τ) osem c
        ∗ unscopedSems0 c ∗ made m c) : sProp 𝕄)
      ⊢ |={Set.univ}=> bigSep Finset.univ (dealtAll m) := by
  have h1 : (bigSep Finset.univ fun c => iprop(Pipeline.ownSems0 (Ix := Unit) (Name := ℕ) (U := UU) (Lvl := ℕ) (Val := Elt F) (τ := τ) osem c
        ∗ unscopedSems0 c ∗ made m c) : sProp 𝕄)
      ⊢ |={Set.univ}=> bigSep Finset.univ fun ck : Dev nD × Fin 3 => iprop((∃ κ : ℕ, cellInv ER (sched m) κ (cellAt ck)) ∗ share ck) :=
    (bigSep_mono fun c _ => by_cell m c).trans ((Entails.of_eq (bigSep_univ_prod (fun ck : Dev nD × Fin 3 =>
      iprop(semVal (cellAt ck) 0 ∗ roundState ER (sched m) (cellAt ck) 0 ∗ share ck : sProp 𝕄))).symm).trans
      ((bigSep_mono fun ck _ => alloc m ck).trans (bigSep_fupd _ _)))
  refine h1.trans (BI.fupd_mono ?_)
  unfold share
  rw [bigSep_sep', bigSep_sep', bigSep_sep']
  iintro ⟨HI, Hat, #Hr, Htok⟩
  ihave HK := (BI.bigSep_exists_pi Finset.univ (fun (ck : Dev nD × Fin 3) (κ : ℕ) => (cellInv ER (sched m) κ (cellAt ck) : sProp 𝕄))) $$ HI
  icases HK with ⟨%K, #HI⟩
  ihave Hd := (deal (F := F)) $$ [Hat Htok]
  · isplitl [Hat] <;> iassumption
  have spread : iprop(records m K ∗ bigSep Finset.univ fun c : Dev nD => (dealt c : sProp 𝕄)) ⊢ bigSep Finset.univ (dealtAll m) :=
    (sep_mono_left (BI.bigSep_of_persistent (Finset.univ : Finset (Dev nD)) (records m K))).trans (by
      rw [← bigSep_sep']
      exact bigSep_mono fun c _ => with_records m K c)
  iapply spread
  isplitr
  · unfold records
    isplitl; · iexact HI
    iexact Hr
  · iexact Hd

/-! ## What is due to each device at launch -/

/-- A device's barrier semaphore is owed one by its mate and nothing by the others. -/
theorem owed_at_barrier (d c : Dev nD) : oweAll d (cell 0 c) () = if d = mate c then 1 else 0 := by
  unfold oweAll oweCopy
  rw [Pi.add_apply, Finsupp.add_apply, tallyAt_apply, tallyAt_apply,
    if_neg (fun h => absurd (cell_inj h.1).1 (by decide)), Nat.zero_add]
  by_cases h : d = mate c
  · subst h; rw [mate_mate, if_pos ⟨rfl, rfl⟩, if_pos rfl]
  · rw [if_neg (fun h' => h (by rw [(cell_inj h'.1).2, mate_mate])), if_neg h]

/-- A device's receive semaphore is owed one transfer by its mate and nothing by the others. -/
theorem owed_at_receive (d c : Dev nD) : oweAll d (cell 2 c) () = if d = mate c then N else 0 := by
  unfold oweAll oweCopy
  rw [Pi.add_apply, Finsupp.add_apply, tallyAt_apply, tallyAt_apply]
  rw [if_neg (c := cell 2 c = cell 0 (mate d) ∧ () = ()) (fun h => absurd (cell_inj h.1).1 (by decide)), Nat.add_zero]
  by_cases h : d = mate c
  · subst h; rw [mate_mate, if_pos ⟨rfl, rfl⟩, if_pos rfl]
  · rw [if_neg (fun h' => h (by rw [(cell_inj h'.1).2, mate_mate])), if_neg h]

/-- A cell owed `n` by the mate of its device and nothing by the others is due `n`. -/
theorem due (k : Fin 3) (c : Dev nD) (n : ℕ) (h : ∀ d, oweAll d (cell k c) () = if d = mate c then n else 0) :
    tallyOn (cell k c) (launchCredit (Pipeline.owing oweAll) 0 (cell k c)) = (tallyAt (cell k c) () n : CellTallies nD τ sig Unit) := by
  unfold tallyAt; refine congrArg _ (Finsupp.ext fun u => ?_); cases u
  rw [Pipeline.launchCredit_owing, Finsupp.single_eq_same, Finset.sum_congr rfl fun d _ => h d,
    Finset.sum_ite_eq' Finset.univ (mate c) fun _ => n, if_pos (Finset.mem_univ _)]

omit [FloatOps F] in
/-- What every device is due at launch: a signal and a transfer. -/
theorem dues (c : Dev nD) :
    (Pipeline.launchCred oweAll c : sProp 𝕄) ⊢ iprop(cred (tallyAt (cell 0 c) () 1) ∗ cred (tallyAt (cell 2 c) () N)) := by
  unfold Pipeline.launchCred
  rw [bigSep_univ_at _ (csem 0), due 0 c 1 fun d => owed_at_barrier d c]
  refine sep_mono_right ?_
  rw [← due 2 c N fun d => owed_at_receive d c]
  exact bigSep_elim (Finset.mem_erase.mpr ⟨fun h => absurd (csem_injective h) (by decide), Finset.mem_univ _⟩)

/-! ## Entering and leaving the pipeline -/

/-- The launch gives a device what it holds before the first point. -/
theorem enter (c : Dev nD) :
    iprop(Pipeline.unscopedRestP Pipeline.Prefetch.none cfg0.spec c (fun b => m ((c : Thread nD τ).loc b)) ∗ levAts L lv
        ∗ Pipeline.launchCred oweAll c ∗ prngReg c (ρ c) ∗ dealtAll m c)
      ⊢ |={Set.univ}=> iprop(atStart m c ∗ emp) := by
  iintro ⟨-, Hlev, Hcr, -, HG⟩
  ihave Hc := (dues (F := F) c) $$ Hcr
  unfold dealtAll dealt
  icases Hc with ⟨Hc0, Hc2⟩
  icases HG with ⟨HR, ⟨Ha0, Ha1, Ha2⟩, Ht0, Ht1, Ht2⟩
  imodintro
  unfold atStart toGreet toSend
  isplitl
  · isplitl [HR]; · iexact HR
    isplitl [Ha0 Ht0 Hc0 Hlev]
    · isplitl [Ha0]; · iexact Ha0
      isplitl [Ht0]; · iexact Ht0
      isplitl [Hc0] <;> iassumption
    isplitl [Ha1]; · iexact Ha1
    isplitl [Ha2]; · iexact Ha2
    isplitl [Ht1]; · iexact Ht1
    isplitl [Ht2] <;> iassumption
  · iempintro

/-- With the exchange buffer in two slots, that is what the first point expects. -/
theorem first_holds (c : Dev nD) :
    iprop(atStart m c ∗ Pipeline.prefHeld Pipeline.Prefetch.none c (fun _ => fullShare.right) (fun k => k.elim0) ∗ Pipeline.scopedRest cfg0.spec c)
      ⊢ (dat m 0 c).Φ 0 := by
  rw [show (dat m 0 c).Φ 0 = _ from holds_start m c, scopedRest0_eq]
  iintro ⟨Hs, -, ⟨%f, Hr⟩⟩
  ihave Hr := (slots_split c f) $$ Hr
  icases Hr with ⟨H0, H1⟩
  isplitl [Hs]; · iexact Hs
  isplitl [H0]; · iexists f; iexact H0
  iexists f; iexact H1

/-- After the last point the semaphores read zero and the exchange buffer is whole again. -/
theorem last_leaves (c : Dev nD) :
    (dat m 0 c).Φ (Fin.last cfg0.N) ⊢ iprop(unscopedSems0 c ∗ Pipeline.ownSems0 osem c ∗ Pipeline.scopedRest cfg0.spec c) := by
  rw [show (dat m 0 c).Φ (Fin.last cfg0.N) = _ from (congrArg (holds m c) points).trans (holds_end m c), scopedRest0_eq, own_eq, barrier_eq]
  unfold atEnd
  iintro ⟨Hs, Hd, H0, H1, H2⟩
  isplitl [H0]; · iexact H0
  isplitl [H1 H2]
  · isplitl [H1] <;> iassumption
  iapply (slots_join c (sums m c) (sums m (mate c)))
  isplitl [Hs] <;> iassumption

/-- The pipeline's waits on its staging buffers are allowed at every point. -/
theorem stage_waits (c : Dev nD) : (levAts L lv : sProp 𝕄) ⊢ Pipeline.cellsWaits cfgs (dat m) () 0 c :=
  Pipeline.cellsWaits_intro cfgs (dat m) () 0 c fun w s t =>
    mayWait_stage c _ (by fin_cases w <;> fin_cases s <;> decide) (by fin_cases w <;> fin_cases s <;> decide) t.val

/-- Every window owns its array outright. -/
theorem whole_share (c : Dev nD) (w : Fin cfg0.W) : (dat m 0 c).share w = fullShare := by unfold Dat.share; split <;> rfl

/-! ## The run -/

/-- A window's array after the run. -/
def final (c : Dev nD) (w : Fin cfg0.W) : Buf (Elt F) ((cfg0.win w).arr.view.loc (c : Thread nD τ)) := (dat m 0 c).arrAt w cfg0.N

set_option maxRecDepth 8000 in
/-- Every fair run of the four devices ends, each device's arrays at their final contents and every semaphore at zero. -/
theorem run_main : θ_run defs (onTc (τ := τ) (main (F := F))) (start m ρ)
    (fun r => (∀ c : Dev nD, ∀ w : Fin cfg0.W, r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dat m) () cellOf_inj (0 : Fin 1)
    winFacts0.to₀ own_sems (Pipeline.PreFacts.none _) EP defs₀ 𝒱₀ m ρ main
    (hmain := fun _ => rfl)
    (hbody := body_obligation m) (hne := block_pos0) (harr := arr_whole0) (hstage := stage_whole0)
    (hshare := whole_share m) (hdistinct := winFacts0.arr_inj)
    (O₀ := oweAll) (howed₀ := fun _ => rfl) (howedN := fun c => (congrArg (owedAt c) points).trans (owedAt_end c))
    (L := L) (lv := lv) (hL := L_of_ne) (hwaits := stage_waits m)
    (G := made m) (G' := dealtAll m) (u₀ := ghost₀)
    (hu₀ := by
      unfold ghost₀
      iintro Hu
      ihave H := (ownU_pair _ _) $$ Hu
      icases H with ⟨HP, HX⟩
      imod (make m) $$ HX with HG
      imodintro
      isplitl [HP] <;> iassumption)
    (hglob := settle m)
    (hA := fun _ _ => rfl) (hpf := fun _ k => k.elim0)
    (X := atStart m) (Y := fun c => unscopedSems0 c) (Z := fun _ => iprop(emp))
    (hX := enter m ρ) (hin := first_holds m) (hout := last_leaves m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Final.lean ====
module

public import proofs.«01_k».proof.Proof.Launch
public import Idealize.ShloMosaic.Lib.Pipeline.ValueKit.Geometry

/-! # What the arrays hold when the kernel returns -/

@[expose] public section

noncomputable section

namespace Cert.Exchange

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-- The argument comes back as it was. -/
theorem final_x (c : Dev nD) : final m c 0 = m (c.tc.loc main_arg0) :=
  (dat m 0 c).arrAt_in 0 rfl cfg0.N

/-- The result array holds what the last point stored. -/
theorem final_out (c : Dev nD) : final m c 1 = result m c := by
  refine (dat m 0 c).arrAt_eq_of_after_last 1 t0_7 (by decide +kernel) _ fun j => ?_
  blk_simp
  show result m c _ = result m c _
  congr 1

/-- The whole run: the argument unchanged, the result in place, every semaphore at zero. -/
theorem run_value (ρ : Dev nD → PrngReg) :
    θ_run defs (onTc (τ := τ) (main (F := F))) ⟨m, fun _ => 0, ρ⟩ (fun r =>
      (∀ c : Dev nD, r.2.mem (c.tc.loc main_arg0) = m (c.tc.loc main_arg0) ∧ r.2.mem (c.tc.loc main_v1) = result m c)
        ∧ r.2.sem = fun _ => 0) := by
  refine (θ_run defs _ _).mono (fun r h => ⟨fun c => ⟨?_, ?_⟩, h.2⟩) (run_main m ρ)
  · exact (h.1 c 0).trans (final_x m c)
  · exact (h.1 c 1).trans (final_out m c)

/-- The run without its value: the argument unchanged and every semaphore at zero. -/
theorem run_frame (ρ : Dev nD → PrngReg) :
    θ_run defs (onTc (τ := τ) (main (F := F))) ⟨m, fun _ => 0, ρ⟩ (fun r =>
      (∀ c : Dev nD, r.2.mem (c.tc.loc main_arg0) = m (c.tc.loc main_arg0)) ∧ r.2.sem = fun _ => 0) :=
  (θ_run defs _ _).mono (fun _ h => ⟨fun c => (h.1 c).1, h.2⟩) (run_value m ρ)

end Cert.Exchange

end
-- ==== Proof.Twin.lean ====
module

public import proofs.«01_k».proof.Proof.Final
public import proofs.«01_k».proof.Proof.Gen.Kernel

/-! # The two printings of the kernel

The kernel is printed once to be read at the bits and once to be read in exact arithmetic; nothing was rewritten between the
two, so at any float values they are the same program. -/

@[expose] public section

noncomputable section

namespace Cert.Exchange

open Idealize.ShloMosaic Idealize.ShloMosaic.TcCoe
open Idealize.SL Idealize.SL.Sem

attribute [local instance] Cert.Kernel.Gen.facts Cert.KernelIdeal.Gen.facts

variable {F : FTy → Type} [FloatOps F]

/-- The two bodies are the same program. -/
theorem body_twin : @Cert.Kernel.cc0_body F _ _ = @Cert.KernelIdeal.cc0_body F _ _ := rfl

/-- So are the two tables that hold them. -/
theorem table_twin : Cert.Kernel.defs₀ (F := F) = Cert.KernelIdeal.defs₀ (F := F) := by
  unfold Cert.Kernel.defs₀ Cert.KernelIdeal.defs₀
  refine congrArg Idealize.ShloMosaic.Defs.onTc ?_
  funext l x
  match l, x with
  | 0, (t, s) => rfl

/-- And the tables the pipeline makes of them. -/
theorem defs_twin : Cert.Kernel.defs (F := F) = Cert.KernelIdeal.defs (F := F) :=
  congrArg (Idealize.ShloMosaic.Pipeline.defs (Cert.KernelIdeal.pcfgs (F := F))) table_twin

variable (m : (ℓ : Loc Cert.Kernel.nD Cert.Kernel.τ Cert.Kernel.sig) → Buf (Elt F) ℓ) (ρ : Dev Cert.Kernel.nD → PrngReg)

/-- The run of the first printing, argument unchanged and every semaphore at zero. -/
theorem kernel_run_frame :
    θ_run Cert.Kernel.defs (onTc (τ := Cert.Kernel.τ) (Cert.Kernel.main (F := F))) ⟨m, fun _ => 0, ρ⟩ (fun r =>
      (∀ c : Dev Cert.Kernel.nD, r.2.mem (c.tc.loc Cert.Kernel.main_arg0) = m (c.tc.loc Cert.Kernel.main_arg0))
        ∧ r.2.sem = fun _ => 0) := by
  rw [defs_twin]
  exact run_frame m ρ

end Cert.Exchange

end
-- ==== Proof.Block.lean ====
module

public import proofs.«01_k».proof.Proof.Rows
public import Idealize.ShloMosaic.Lib.Pointwise
public import Idealize.ShloMosaic.Lib.Pipeline.ValueKit.Geometry

/-! # What one block computes, in exact arithmetic

A point sums each of its 256 rows over the 1024 columns the device holds; the last point adds the two slots of the exchange
buffer. Read over the extended reals, a device's result is its own row sums plus its mate's. -/

@[expose] public section

noncomputable section

namespace Cert.Exchange

open Cert.KernelIdeal Cert.KernelIdeal.Gen
open Idealize.ShloMosaic Idealize.ShloMosaic.TcCoe
open Idealize.SL Idealize.SL.Sem

/-- A point's sums: row `r` of the block, added up over its columns. -/
theorem pay1_row (v : FVec Ideal S256x1024 .f32) (r : Fin 256) :
    k0_pay1 v (ix3 (0 : Fin 1) r (0 : Fin 1)) = ∑ k : Fin 1024, v (ix2 r k) := by
  pointwise [k0_pay1]

/-- The last point's addition, at a row. -/
theorem pay2_row (a b : FVec Ideal S1x2048x1 .f32) (r : Fin 2048) :
    k0_pay2 a b (ix2 r (0 : Fin 1)) = a (ix3 (0 : Fin 1) r (0 : Fin 1)) + b (ix3 (0 : Fin 1) r (0 : Fin 1)) := by
  pointwise [k0_pay2]

variable (m : (ℓ : Loc nD τ sig) → Buf (Elt Ideal) ℓ)

/-- The part of the argument device `c` holds. -/
def part (c : Dev nD) : FVec Ideal S2048x1024 .f32 := m (c.tc.loc main_arg0)

/-- The argument's block of point `t` starts at row `256 t` and spans every column. -/
theorem index_x : ∀ t : Fin cfg0.N, win0_0.index t = ![t.val, 0] :=
  (by decide +kernel : ∀ t : Fin grid0.N, _)

/-- Row `r` of point `t`'s block is row `256 t + r` of the device's argument. -/
theorem iblk_row (c : Dev nD) (t : Fin cfg0.N) (r : Fin 256) (q : Fin 2048) (hq : q.val = t.val * 256 + r.val) (k : Fin 1024) :
    iblk m c 0 t (ix2 r k) = part m c (ix2 q k) := by
  unfold part
  blk_ext [iblk, V, index_x t]

/-- A device's row sum, over its own columns. -/
theorem sums_row (c : Dev nD) (s : Fin 2) (q : Fin 2048) :
    sums m c (ix3 s q (0 : Fin 1)) = ∑ k : Fin 1024, part m c (ix2 q k) := by
  refine (pay1_row (iblk m c 0 (pointOf (ix3 s q (0 : Fin 1)))) ⟨q.val % 256, Nat.mod_lt _ (by decide)⟩).trans ?_
  refine Finset.sum_congr rfl fun k _ => iblk_row m c _ _ q ?_ k
  show q.val = q.val / 256 * 256 + q.val % 256
  omega

/-- What the exchange buffer's slot `0` hands the last addition. -/
theorem read_slot0 (f : Both Ideal) (q : Fin 2048) :
    comm.view.readAt (Elt Ideal) rect0.toLoadRect f (ix3 (0 : Fin 1) q (0 : Fin 1)) = f (ix3 (0 : Fin 2) q (0 : Fin 1)) := by
  show f (rect0.emb _) = f _
  congr 1
  funext a
  refine Fin.ext ?_
  fin_cases a
  · rfl
  · show 0 + 1 * q.val = q.val; omega
  · rfl

/-- What the exchange buffer's slot `1` hands the last addition. -/
theorem read_slot1 (f : Both Ideal) (q : Fin 2048) :
    comm.view.readAt (Elt Ideal) rect1.toLoadRect f (ix3 (0 : Fin 1) q (0 : Fin 1)) = f (ix3 (1 : Fin 2) q (0 : Fin 1)) := by
  show f (rect1.emb _) = f _
  congr 1
  funext a
  refine Fin.ext ?_
  fin_cases a
  · rfl
  · show 0 + 1 * q.val = q.val; omega
  · rfl

/-- A device's result at row `q`: its own columns' sum plus its mate's. -/
theorem result_row (c : Dev nD) (q : Fin 2048) :
    result m c (ix2 q (0 : Fin 1))
      = (∑ k : Fin 1024, part m c (ix2 q k)) + ∑ k : Fin 1024, part m (mate c) (ix2 q k) := by
  unfold result
  rw [pay2_row, read_slot0, read_slot1, sums_row, sums_row]

end Cert.Exchange

end
-- ==== Proof.Reference.lean ====
module

public import proofs.«01_k».proof.Proof.Gen.ReferenceIdeal.Run
public import Idealize.ShloMosaic.Lib.Pointwise

/-! # What the reference computes, in exact arithmetic

Row by row, the sum of the whole row of 2048 columns. -/

@[expose] public section

noncomputable section

namespace Cert.Exchange

open Cert.ReferenceIdeal Cert.ReferenceIdeal.Gen
open Idealize.ShloMosaic Idealize.ShloMosaic.TcCoe
open Idealize.SL Idealize.SL.Sem

/-- The reference's result as a function of the whole argument. -/
def rowTotals (X : FVec Ideal S4096x2048 .f32) : FVec Ideal S4096x1 .f32 :=
  broadcastInDim S4096x1 ![0] bcast_S4096_S4096x1_0
    (Host.reduceAdd X (constant S_ .f32 0x00000000#32) reducesTo_S4096x2048_S4096_d1 h_S_)

/-- Its entry at a row: that row added up over every column. -/
theorem rowTotals_row (X : FVec Ideal S4096x2048 .f32) (r : Fin 4096) (z : Fin 1) :
    rowTotals X (ix2 r z) = ∑ k : Fin 2048, X (ix2 r k) := by
  pointwise [rowTotals]

/-- The reference's run: its result is `rowTotals` of its argument, which it leaves alone, and it has no semaphore to move. -/
theorem reference_run (m : (ℓ : Loc nD τ sig) → Buf (Elt Ideal) ℓ) (ρ : Dev nD → PrngReg) :
    θ_run defs (onTc (τ := τ) (main (F := Ideal))) ⟨m, fun _ => 0, ρ⟩ (fun r =>
      (∀ c : Dev nD, r.2.mem (c.tc.loc main_v1) = rowTotals (m (c.tc.loc main_arg0))
        ∧ r.2.mem (c.tc.loc main_arg0) = m (c.tc.loc main_arg0)) ∧ r.2.sem = fun _ => 0) :=
  (θ_run defs _ _).mono (fun r h => ⟨h, Idealize.ShloMosaic.sem_eq_zero_of_no_sems (by decide) r.2⟩)
    (Cert.ReferenceIdeal.Value.run (F := Ideal) m ρ)

end Cert.Exchange

end
-- ==== Proof.Equation.lean ====
module

public import proofs.«01_k».proof.Proof.Block
public import proofs.«01_k».proof.Proof.Reference
public import Idealize.ShloMosaic.Lib.Layout

/-! # The equation

The two devices of a mesh row hold the left and the right 1024 columns of the same rows. The sum over the left columns plus
the sum over the right ones, in either order, is the sum over the row. -/

@[expose] public section

noncomputable section

namespace Cert.Exchange

open Cert.KernelIdeal Cert.KernelIdeal.Gen
open Idealize.ShloMosaic Idealize.ShloMosaic.TcCoe
open Idealize.SL Idealize.SL.Sem

/-- Device `c`'s block of the whole argument. -/
def partOf (X : FVec Ideal ⟨2, ![4096, 2048]⟩ .f32) (c : Dev nD) : FVec Ideal S2048x1024 .f32 :=
  Layout.blockN ⟨2, ![2048, 1024]⟩ ⟨2, ![4096, 2048]⟩ (Layout.meshBlock [2, 2] ![[0], [1]] c) X

/-- The row of the whole array that is row `q` on device `c`. -/
def rowAt (c : Dev nD) (q : Fin 2048) : Fin 4096 := ⟨c.val / 2 * 2048 + q.val, by
  have hc : c.val < 4 := c.isLt
  omega⟩

/-- The column of the whole array that is column `k` of the left (`h = 0`) or right (`h = 1`) half. -/
def colAt (h : Fin 2) (k : Fin 1024) : Fin 2048 := ⟨h.val * 1024 + k.val, by omega⟩

/-- The half of the columns device `c` holds. -/
def halfOf (c : Dev nD) : Fin 2 := ⟨c.val % 2, Nat.mod_lt _ (by decide)⟩

/-- The mate holds the same rows. -/
theorem rowAt_mate (c : Dev nD) (q : Fin 2048) : rowAt (mate c) q = rowAt c q := by
  refine Fin.ext ?_
  have h : ∀ c : Dev nD, (mate c).val / 2 = c.val / 2 := by decide
  show (mate c).val / 2 * 2048 + q.val = c.val / 2 * 2048 + q.val
  rw [h]

/-- The mate holds the other half of the columns. -/
theorem halfOf_mate : ∀ c : Dev nD, (halfOf c = 0 ∧ halfOf (mate c) = 1) ∨ (halfOf c = 1 ∧ halfOf (mate c) = 0) := by decide

/-- An element of device `c`'s block, as an element of the whole array. -/
theorem partOf_apply (X : FVec Ideal ⟨2, ![4096, 2048]⟩ .f32) (c : Dev nD) (q : Fin 2048) (k : Fin 1024) :
    partOf X c (ix2 q k) = X (ix2 (rowAt c q) (colAt (halfOf c) k)) := by
  have h0 : ∀ c : Dev nD, ((Layout.meshBlock [2, 2] ![[0], [1]] c : (b : Fin 2) → _) 0).val = c.val / 2 := by decide
  have h1 : ∀ c : Dev nD, ((Layout.meshBlock [2, 2] ![[0], [1]] c : (b : Fin 2) → _) 1).val = c.val % 2 := by decide
  unfold partOf
  rw [Layout.blockN_apply]
  congr 1
  funext a
  refine Fin.ext ?_
  fin_cases a
  · exact congrArg (· * 2048 + q.val) (h0 c)
  · exact congrArg (· * 1024 + k.val) (h1 c)

/-- Device `c`'s block of the whole result. -/
def resultOf (R : FVec Ideal ⟨2, ![4096, 1]⟩ .f32) (c : Dev nD) : FVec Ideal S2048x1 .f32 :=
  Layout.blockN ⟨2, ![2048, 1]⟩ ⟨2, ![4096, 1]⟩ (Layout.meshBlock [2, 2] ![[0], []] c) R

/-- An element of device `c`'s block of the result, as an element of the whole result. -/
theorem resultOf_apply (R : FVec Ideal ⟨2, ![4096, 1]⟩ .f32) (c : Dev nD) (q : Fin 2048) :
    resultOf R c (ix2 q (0 : Fin 1)) = R (ix2 (rowAt c q) (0 : Fin 1)) := by
  have h0 : ∀ c : Dev nD, ((Layout.meshBlock [2, 2] ![[0], []] c : (b : Fin 2) → _) 0).val = c.val / 2 := by decide
  unfold resultOf
  rw [Layout.blockN_apply]
  congr 1
  funext a
  refine Fin.ext ?_
  fin_cases a
  · exact congrArg (· * 2048 + q.val) (h0 c)
  · rfl

/-- A sum over every column is the sum over the left half plus the sum over the right half. -/
theorem sum_halves (f : Fin 2048 → EReal) :
    ∑ k : Fin 2048, f k = (∑ k : Fin 1024, f (colAt 0 k)) + ∑ k : Fin 1024, f (colAt 1 k) := by
  refine (Fin.sum_univ_add (a := 1024) (b := 1024) f).trans ?_
  refine congrArg₂ (· + ·) (Finset.sum_congr rfl fun k _ => congrArg f ?_) (Finset.sum_congr rfl fun k _ => congrArg f ?_)
  · refine Fin.ext ?_
    show k.val = 0 * 1024 + k.val
    omega
  · refine Fin.ext ?_
    show 1024 + k.val = 1 * 1024 + k.val
    omega

/-- The two partial sums of a mesh row make the sum of the whole row. -/
theorem partial_sums (X : FVec Ideal ⟨2, ![4096, 2048]⟩ .f32) (c : Dev nD) (q : Fin 2048) :
    (∑ k : Fin 1024, partOf X c (ix2 q k)) + ∑ k : Fin 1024, partOf X (mate c) (ix2 q k)
      = ∑ k : Fin 2048, X (ix2 (rowAt c q) k) := by
  rw [sum_halves fun k => X (ix2 (rowAt c q) k)]
  simp only [partOf_apply, rowAt_mate]
  rcases halfOf_mate c with ⟨h, h'⟩ | ⟨h, h'⟩ <;> rw [h, h']
  exact add_comm _ _

/-- Each device's result is its block of the reference's, when each device's argument is its block of the reference's. -/
theorem result_eq (m : (ℓ : Loc nD τ sig) → Buf (Elt Ideal) ℓ) (X : FVec Ideal ⟨2, ![4096, 2048]⟩ .f32)
    (hX : ∀ c, part m c = partOf X c) (c : Dev nD) :
    result m c = resultOf (rowTotals X) c := by
  funext j
  obtain ⟨q, z, rfl⟩ : ∃ (q : Fin 2048) (z : Fin 1), j = ix2 q z := ⟨j 0, j 1, ValueIdx.eq_ix2 j⟩
  obtain rfl : z = 0 := Subsingleton.elim _ _
  rw [resultOf_apply, result_row, rowTotals_row, hX, hX]
  exact partial_sums X c q

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Twin
public import proofs.«01_k».proof.Proof.Equation
public import Idealize.ShloMosaic.Adequacy
public import Idealize.ShloMosaic.Init

@[expose] public section

noncomputable section

namespace Cert.Proof

open Idealize.ShloMosaic Idealize.SL.Sem

/-- The kernel, at the bits, runs and leaves its argument and every semaphore as they were. -/
theorem kernel_frame : Cert.quiescent_Kernel := fun m g _ =>
  Cert.Exchange.kernel_run_frame (F := Bits) m g

/-- The kernel, in exact arithmetic, runs and leaves its argument and every semaphore as they were. -/
theorem ideal_frame : Cert.quiescent_KernelIdeal := fun m g _ =>
  Cert.Exchange.run_frame (F := Ideal) m g

/-- The reference runs and leaves its argument as it was; it has no semaphore. -/
theorem reference_frame : Cert.quiescent_ReferenceIdeal := fun m g _ =>
  (θ_run Cert.ReferenceIdeal.defs _ _).mono (fun _ h => ⟨fun c => (h.1 c).2, h.2⟩) (Cert.Exchange.reference_run m g)

/-- In exact arithmetic, each device's result is its block of the reference's. -/
theorem value : Cert.algebraic_KernelIdeal_ReferenceIdeal := fun m g m' g' _ hagree =>
  ⟨Cert.Exchange.rowTotals (m' (((0 : Dev Cert.ReferenceIdeal.nD).tc : Thread _ Cert.ReferenceIdeal.τ).loc Cert.ReferenceIdeal.main_arg0)),
    (θ_run Cert.KernelIdeal.defs _ _).mono
      (fun _ h c => ⟨(h.1 c).2.trans (Cert.Exchange.result_eq m _ hagree c), (h.1 c).1⟩) (Cert.Exchange.run_value (F := Ideal) m g),
    (θ_run Cert.ReferenceIdeal.defs _ _).mono (fun _ h => h.1 0) (Cert.Exchange.reference_run m' g')⟩

/-- Every claim. -/
theorem claim : Cert.Claim := ⟨Cert.Kernel.Gen.facts, Cert.KernelIdeal.Gen.facts, Cert.ReferenceIdeal.Gen.facts,
  kernel_frame, ideal_frame, reference_frame, trivial, value⟩

end Cert.Proof

end
